-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nf4 [hPre_nf4 : Cert.Pre_nf4.Facts] (m : (ℓ : Loc Cert.KernelIdeal.nD Cert.KernelIdeal.τ Cert.KernelIdeal.sig) → Buf (Elt Ideal) ℓ) : Prop :=
  ∀ c : Dev Cert.KernelIdeal.nD,
    (Cert.Pre_nf4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nf4 [hPre_nf4 : Cert.Pre_nf4.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nf4.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nf4 [hKernelIdeal : Cert.KernelIdeal.Facts] [hPre_nf4 : Cert.Pre_nf4.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nf4 m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nf4 [hReferenceIdeal : Cert.ReferenceIdeal.Facts] [hPre_nf4 : Cert.Pre_nf4.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nf4 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mid0" .f32 0xBF591CD8#32 ((-28457393 / 33554432 : ℝ) : EReal)
  ∧ IdealRules.named_const.Statement Cert.KernelIdeal.κ "mid1" .f32 0xBF1C5270#32 ((-20489441 / 33554432 : ℝ) : EReal)
  ∧ IdealRules.named_const.Statement Cert.KernelIdeal.κ "mid2" .f32 0xBEEB8480#32 ((-120585 / 262144 : ℝ) : EReal)
  ∧ IdealRules.named_const.Statement Cert.KernelIdeal.κ "mid3" .f32 0xBEADEA76#32 ((-22795501 / 67108864 : ℝ) : EReal)
  ∧ IdealRules.named_const.Statement Cert.KernelIdeal.κ "mid4" .f32 0xBE703CEC#32 ((-31488473 / 134217728 : ℝ) : EReal)
  ∧ IdealRules.named_const.Statement Cert.KernelIdeal.κ "mid5" .f32 0xBE0D38BC#32 ((-37020399 / 268435456 : ℝ) : EReal)
  ∧ IdealRules.named_const.Statement Cert.KernelIdeal.κ "mid6" .f32 0xBD3A7871#32 ((-12220529 / 268435456 : ℝ) : EReal)
  ∧ IdealRules.named_const.Statement Cert.KernelIdeal.κ "mid7" .f32 0x3D22FAFF#32 ((10681087 / 268435456 : ℝ) : EReal)
  ∧ IdealRules.named_const.Statement Cert.KernelIdeal.κ "mid8" .f32 0x3DF64862#32 ((32280773 / 268435456 : ℝ) : EReal)
  ∧ IdealRules.named_const.Statement Cert.KernelIdeal.κ "mid9" .f32 0x3E5067E0#32 ((426815 / 2097152 : ℝ) : EReal)
  ∧ IdealRules.named_const.Statement Cert.KernelIdeal.κ "mid10" .f32 0x3E9582D4#32 ((39193425 / 134217728 : ℝ) : EReal)
  ∧ IdealRules.named_const.Statement Cert.KernelIdeal.κ "mid11" .f32 0x3EC753F9#32 ((13063161 / 33554432 : ℝ) : EReal)
  ∧ IdealRules.named_const.Statement Cert.KernelIdeal.κ "mid12" .f32 0x3F006D04#32 ((16833031 / 33554432 : ℝ) : EReal)
  ∧ IdealRules.named_const.Statement Cert.KernelIdeal.κ "mid13" .f32 0x3F248DAF#32 ((10784175 / 16777216 : ℝ) : EReal)
  ∧ IdealRules.named_const.Statement Cert.KernelIdeal.κ "mid14" .f32 0x3F5C89DA#32 ((28906419 / 33554432 : ℝ) : EReal)

def algebraic_KernelIdeal_ReferenceIdeal_pre_nf4 [hKernelIdeal : Cert.KernelIdeal.Facts] [hReferenceIdeal : Cert.ReferenceIdeal.Facts] [hPre_nf4 : Cert.Pre_nf4.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nf4 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nf4 : Cert.Pre_nf4.Facts),
    quiescent_Kernel (hKernel := hKernel)
    ∧ quiescent_KernelIdeal (hKernelIdeal := hKernelIdeal)
    ∧ quiescent_KernelIdeal_pre_nf4 (hKernelIdeal := hKernelIdeal) (hPre_nf4 := hPre_nf4)
    ∧ quiescent_ReferenceIdeal (hReferenceIdeal := hReferenceIdeal)
    ∧ quiescent_ReferenceIdeal_pre_nf4 (hReferenceIdeal := hReferenceIdeal) (hPre_nf4 := hPre_nf4)
    ∧ preserves_Kernel_KernelIdeal
    ∧ algebraic_KernelIdeal_ReferenceIdeal_pre_nf4 (hKernelIdeal := hKernelIdeal) (hReferenceIdeal := hReferenceIdeal) (hPre_nf4 := hPre_nf4)
-- ==== Pre_nf4.lean ====
abbrev S4096x4096 : Shape := ⟨2, ![4096, 4096]⟩
abbrev S16 : Shape := ⟨1, ![16]⟩
abbrev S_ : Shape := ⟨0, ![]⟩

class Facts : Prop where
  reducesTo_S16_S_d0 : S16.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

noncomputable abbrev lit0 : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

def fn {F : FTy → Type} [FloatOps F] (main_arg0 : FVec F S4096x4096 .f32) (main_arg1 : FVec F S16 .f32) : IVec S_ 1 :=
  let main_cst : FVec F S16 .f32 := fun i => FloatOps.ofBits .f32 (lit0 (S16.rowMajor i))
  let main_v0 : IVec S16 1 := cmpf .oeq main_arg1 main_cst
  let main_c : IVec S_ 1 := constantI S_ 1 1#1
  let main_v1 : IVec S_ 1 := (fun x v => Host.reduce IntOp.andi x v reducesTo_S16_S_d0 h_S_) main_v0 main_c
  let main_v2 : FVec F S4096x4096 .f32 := Host.absf main_arg0
  let main_cst_0 : FVec F S_ .f32 := constant S_ .f32 0x7F800000#32
  let main_v3 : FVec F S4096x4096 .f32 := broadcastInDim S4096x4096 ![] bcast_S_S4096x4096 main_cst_0
  let main_v4 : IVec S4096x4096 1 := cmpf .olt main_v2 main_v3
  let main_c_1 : IVec S_ 1 := constantI S_ 1 1#1
  let main_v5 : IVec S_ 1 := (fun x v => Host.reduce IntOp.andi x v reducesTo_S4096x4096_S_d0_1 h_S_) main_v4 main_c_1
  let main_v6 : IVec S_ 1 := andi main_v1 main_v5
  main_v6
-- ==== Kernel.lean ====
abbrev S4096x4096 : Shape := ⟨2, ![4096, 4096]⟩
abbrev S16 : Shape := ⟨1, ![16]⟩
abbrev S1024x4096 : Shape := ⟨2, ![1024, 4096]⟩
abbrev S4x4096 : Shape := ⟨2, ![4, 4096]⟩
abbrev S_ : Shape := ⟨0, ![]⟩
abbrev S1x16 : Shape := ⟨2, ![1, 16]⟩
abbrev S1 : Shape := ⟨1, ![1]⟩
abbrev S128x4096 : Shape := ⟨2, ![128, 4096]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Table → Nat
  | .hbm => 5
  | .local .tc .vmem => 8
  | .local .scVector .vmem => 4
  | _ => 0

abbrev bufTy : (tb : Table) → Fin (nBuf tb) → BufTy
  | .hbm, ⟨0, _⟩ => ⟨S4096x4096, .f32⟩
  | .hbm, ⟨1, _⟩ => ⟨S16, .f32⟩
  | .hbm, ⟨2, _⟩ => ⟨S1024x4096, .f32⟩
  | .hbm, ⟨3, _⟩ => ⟨S4096x4096, .f32⟩
  | .hbm, ⟨4, _⟩ => ⟨S4096x4096, .f32⟩
  | .local .tc .vmem, ⟨0, _⟩ => ⟨S128x4096, .f32⟩
  | .local .tc .vmem, ⟨1, _⟩ => ⟨S128x4096, .f32⟩
  | .local .tc .vmem, ⟨2, _⟩ => ⟨S128x4096, .f32⟩
  | .local .tc .vmem, ⟨3, _⟩ => ⟨S128x4096, .f32⟩
  | .local .tc .vmem, ⟨4, _⟩ => ⟨S128x4096, .f32⟩
  | .local .tc .vmem, ⟨5, _⟩ => ⟨S128x4096, .f32⟩
  | .local .tc .vmem, ⟨6, _⟩ => ⟨S128x4096, .f32⟩
  | .local .tc .vmem, ⟨7, _⟩ => ⟨S128x4096, .f32⟩
  | .local .scVector .vmem, ⟨0, _⟩ => ⟨S4x4096, .f32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_0 : BitVec 32 := 0#32
  ![v3.toNat, 0]
@[reducible] def k0_t1_loop : Scf.Loop 32 :=
  let c0_i32_7 : BitVec 32 := 0#32
  let c256_i32 : BitVec 32 := 256#32
  let v12 : BitVec 32 := Scalar.addi c0_i32_7 c256_i32
  let c1_i32 : BitVec 32 := 1#32
  ⟨c0_i32_7, v12, c1_i32⟩
def k0_mult1 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult2 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off2 (k0_t1 : Fin k0_t1_loop.trips) (c0_i32_121 : BitVec 32) : Fin 2 → Nat :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult3 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult4 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult5 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult6 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult7 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult8 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult9 (k0_t1 : Fin k0_t1_loop.trips) : BitVec 32 :=
  let c0_i32_119 : BitVec 32 := 0#32
  let c0_i32_7 : BitVec 32 := 0#32
  let c1_i32 : BitVec 32 := 1#32
  let arg12 : BitVec 32 := Scf.iv c0_i32_7 c1_i32 k0_t1
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
def k0_off3 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v13 : BitVec 32 := Scalar.addi v2 c0_i32_9
  let c0_i32_10 : BitVec 32 := 0#32
  ![v13.toNat, 0]
@[reducible] def k0_t2_loop : Scf.Loop 32 :=
  let c0_i32_17 : BitVec 32 := 0#32
  let c256_i32_18 : BitVec 32 := 256#32
  let v22 : BitVec 32 := Scalar.addi c0_i32_17 c256_i32_18
  let c1_i32_19 : BitVec 32 := 1#32
  ⟨c0_i32_17, v22, c1_i32_19⟩
def k0_mult10 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult11 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off4 (k0_t2 : Fin k0_t2_loop.trips) (c0_i32_121 : BitVec 32) : Fin 2 → Nat :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult12 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult13 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult14 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult15 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult16 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult17 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult18 (k0_t2 : Fin k0_t2_loop.trips) : BitVec 32 :=
  let c0_i32_119 : BitVec 32 := 0#32
  let c0_i32_17 : BitVec 32 := 0#32
  let c1_i32_19 : BitVec 32 := 1#32
  let arg12 : BitVec 32 := Scf.iv c0_i32_17 c1_i32_19 k0_t2
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t3_loop : Scf.Loop 32 :=
  let c0_i32_32 : BitVec 32 := 0#32
  let c256_i32_33 : BitVec 32 := 256#32
  let v35 : BitVec 32 := Scalar.addi c0_i32_32 c256_i32_33
  let c1_i32_34 : BitVec 32 := 1#32
  ⟨c0_i32_32, v35, c1_i32_34⟩
def k0_mult19 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult20 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off5 (k0_t3 : Fin k0_t3_loop.trips) (c0_i32_121 : BitVec 32) : Fin 2 → Nat :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult21 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult22 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult23 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult24 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult25 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult26 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult27 (k0_t3 : Fin k0_t3_loop.trips) : BitVec 32 :=
  let c0_i32_119 : BitVec 32 := 0#32
  let c0_i32_32 : BitVec 32 := 0#32
  let c1_i32_34 : BitVec 32 := 1#32
  let arg12 : BitVec 32 := Scf.iv c0_i32_32 c1_i32_34 k0_t3
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t4_loop : Scf.Loop 32 :=
  let c0_i32_47 : BitVec 32 := 0#32
  let c256_i32_48 : BitVec 32 := 256#32
  let v48 : BitVec 32 := Scalar.addi c0_i32_47 c256_i32_48
  let c1_i32_49 : BitVec 32 := 1#32
  ⟨c0_i32_47, v48, c1_i32_49⟩
def k0_mult28 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult29 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off6 (k0_t4 : Fin k0_t4_loop.trips) (c0_i32_121 : BitVec 32) : Fin 2 → Nat :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult30 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult31 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult32 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult33 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult34 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult35 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult36 (k0_t4 : Fin k0_t4_loop.trips) : BitVec 32 :=
  let c0_i32_119 : BitVec 32 := 0#32
  let c0_i32_47 : BitVec 32 := 0#32
  let c1_i32_49 : BitVec 32 := 1#32
  let arg12 : BitVec 32 := Scf.iv c0_i32_47 c1_i32_49 k0_t4
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t5_loop : Scf.Loop 32 :=
  let c0_i32_62 : BitVec 32 := 0#32
  let c256_i32_63 : BitVec 32 := 256#32
  let v61 : BitVec 32 := Scalar.addi c0_i32_62 c256_i32_63
  let c1_i32_64 : BitVec 32 := 1#32
  ⟨c0_i32_62, v61, c1_i32_64⟩
def k0_mult37 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult38 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off7 (k0_t5 : Fin k0_t5_loop.trips) (c0_i32_121 : BitVec 32) : Fin 2 → Nat :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult39 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult40 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult41 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult42 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult43 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult44 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult45 (k0_t5 : Fin k0_t5_loop.trips) : BitVec 32 :=
  let c0_i32_119 : BitVec 32 := 0#32
  let c0_i32_62 : BitVec 32 := 0#32
  let c1_i32_64 : BitVec 32 := 1#32
  let arg12 : BitVec 32 := Scf.iv c0_i32_62 c1_i32_64 k0_t5
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t6_loop : Scf.Loop 32 :=
  let c0_i32_77 : BitVec 32 := 0#32
  let c256_i32_78 : BitVec 32 := 256#32
  let v74 : BitVec 32 := Scalar.addi c0_i32_77 c256_i32_78
  let c1_i32_79 : BitVec 32 := 1#32
  ⟨c0_i32_77, v74, c1_i32_79⟩
def k0_mult46 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult47 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off8 (k0_t6 : Fin k0_t6_loop.trips) (c0_i32_121 : BitVec 32) : Fin 2 → Nat :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult48 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult49 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult50 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult51 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult52 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult53 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult54 (k0_t6 : Fin k0_t6_loop.trips) : BitVec 32 :=
  let c0_i32_119 : BitVec 32 := 0#32
  let c0_i32_77 : BitVec 32 := 0#32
  let c1_i32_79 : BitVec 32 := 1#32
  let arg12 : BitVec 32 := Scf.iv c0_i32_77 c1_i32_79 k0_t6
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t7_loop : Scf.Loop 32 :=
  let c0_i32_92 : BitVec 32 := 0#32
  let c256_i32_93 : BitVec 32 := 256#32
  let v87 : BitVec 32 := Scalar.addi c0_i32_92 c256_i32_93
  let c1_i32_94 : BitVec 32 := 1#32
  ⟨c0_i32_92, v87, c1_i32_94⟩
def k0_mult55 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult56 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off9 (k0_t7 : Fin k0_t7_loop.trips) (c0_i32_121 : BitVec 32) : Fin 2 → Nat :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult57 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult58 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult59 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult60 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult61 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult62 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult63 (k0_t7 : Fin k0_t7_loop.trips) : BitVec 32 :=
  let c0_i32_119 : BitVec 32 := 0#32
  let c0_i32_92 : BitVec 32 := 0#32
  let c1_i32_94 : BitVec 32 := 1#32
  let arg12 : BitVec 32 := Scf.iv c0_i32_92 c1_i32_94 k0_t7
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
@[reducible] def k0_t8_loop : Scf.Loop 32 :=
  let c0_i32_105 : BitVec 32 := 0#32
  let c256_i32_106 : BitVec 32 := 256#32
  let v97 : BitVec 32 := Scalar.addi c0_i32_105 c256_i32_106
  let c1_i32_107 : BitVec 32 := 1#32
  ⟨c0_i32_105, v97, c1_i32_107⟩
def k0_mult64 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  v111
def k0_mult65 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_121 : BitVec 32 := 0#32
  let v113 : BitVec 32 := Scalar.addi v112 c0_i32_121
  v113
def k0_off10 (k0_t8 : Fin k0_t8_loop.trips) (c0_i32_121 : BitVec 32) : Fin 2 → Nat :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c6_i32 : BitVec 32 := 6#32
  let v109 : BitVec 32 := Scalar.shrsi v108 c6_i32
  let v115 : Index := Scalar.indexCast v109
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let v113 : BitVec 32 := Scalar.addi v112 c0_i32_121
  let v114 : BitVec 32 := v113
  let v116 : Index := Scalar.indexCast v114
  ![v115.toNat, v116.toNat]
def k0_mult66 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_122 : BitVec 32 := 16#32
  let v118 : BitVec 32 := Scalar.addi v112 c16_i32_122
  v118
def k0_mult67 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_123 : BitVec 32 := 32#32
  let v123 : BitVec 32 := Scalar.addi v112 c32_i32_123
  v123
def k0_mult68 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32 : BitVec 32 := 48#32
  let v128 : BitVec 32 := Scalar.addi v112 c48_i32
  v128
def k0_mult69 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c0_i32_155 : BitVec 32 := 0#32
  let v266 : BitVec 32 := Scalar.addi v112 c0_i32_155
  v266
def k0_mult70 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c16_i32_172 : BitVec 32 := 16#32
  let v334 : BitVec 32 := Scalar.addi v112 c16_i32_172
  v334
def k0_mult71 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c32_i32_189 : BitVec 32 := 32#32
  let v402 : BitVec 32 := Scalar.addi v112 c32_i32_189
  v402
def k0_mult72 (k0_t8 : Fin k0_t8_loop.trips) : BitVec 32 :=
  let c0_i32_119 : BitVec 32 := 0#32
  let c0_i32_105 : BitVec 32 := 0#32
  let c1_i32_107 : BitVec 32 := 1#32
  let arg12 : BitVec 32 := Scf.iv c0_i32_105 c1_i32_107 k0_t8
  let c1_i32_118 : BitVec 32 := 1#32
  let v107 : BitVec 32 := Scalar.muli arg12 c1_i32_118
  let v108 : BitVec 32 := Scalar.addi c0_i32_119 v107
  let c63_i32 : BitVec 32 := 63#32
  let v110 : BitVec 32 := Scalar.andi v108 c63_i32
  let c6_i32_120 : BitVec 32 := 6#32
  let v111 : BitVec 32 := Scalar.shli v110 c6_i32_120
  let v112 : BitVec 32 := v111
  let c48_i32_206 : BitVec 32 := 48#32
  let v470 : BitVec 32 := Scalar.addi v112 c48_i32_206
  v470
abbrev grid1 : Pipeline.Grid := ⟨1, ![24], ![false]⟩

def cc1_transform_0 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mid0" => some ((-28457393 / 33554432 : ℝ) : EReal)
  | "mid1" => some ((-20489441 / 33554432 : ℝ) : EReal)
  | "mid10" => some ((39193425 / 134217728 : ℝ) : EReal)
  | "mid11" => some ((13063161 / 33554432 : ℝ) : EReal)
  | "mid12" => some ((16833031 / 33554432 : ℝ) : EReal)
  | "mid13" => some ((10784175 / 16777216 : ℝ) : EReal)
  | "mid14" => some ((28906419 / 33554432 : ℝ) : EReal)
  | "mid2" => some ((-120585 / 262144 : ℝ) : EReal)
  | "mid3" => some ((-22795501 / 67108864 : ℝ) : EReal)
  | "mid4" => some ((-31488473 / 134217728 : ℝ) : EReal)
  | "mid5" => some ((-37020399 / 268435456 : ℝ) : EReal)
  | "mid6" => some ((-12220529 / 268435456 : ℝ) : EReal)
  | "mid7" => some ((10681087 / 268435456 : ℝ) : EReal)
  | "mid8" => some ((32280773 / 268435456 : ℝ) : EReal)
  | "mid9" => some ((426815 / 2097152 : ℝ) : EReal)
  | _ => none
-- ==== ReferenceIdeal.lean ====
abbrev S4096x4096 : Shape := ⟨2, ![4096, 4096]⟩
abbrev S16 : Shape := ⟨1, ![16]⟩
abbrev S16777216 : Shape := ⟨1, ![16777216]⟩
abbrev S262144x64 : Shape := ⟨2, ![262144, 64]⟩
abbrev S_ : Shape := ⟨0, ![]⟩
abbrev S262144 : Shape := ⟨1, ![262144]⟩
abbrev S262144x1 : Shape := ⟨2, ![262144, 1]⟩
abbrev S262144x64x1 : Shape := ⟨3, ![262144, 64, 1]⟩
abbrev S1x1x16 : Shape := ⟨3, ![1, 1, 16]⟩
abbrev S262144x64x16 : Shape := ⟨3, ![262144, 64, 16]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16, .f32⟩
  | .hbm, ⟨2, _⟩ => ⟨S16777216, .f32⟩
  | .hbm, ⟨3, _⟩ => ⟨S262144x64, .f32⟩
  | .hbm, ⟨4, _⟩ => ⟨S262144x64, .f32⟩
  | .hbm, ⟨5, _⟩ => ⟨S_, .f32⟩
  | .hbm, ⟨6, _⟩ => ⟨S262144, .f32⟩
  | .hbm, ⟨7, _⟩ => ⟨S262144x1, .f32⟩
  | .hbm, ⟨8, _⟩ => ⟨S_, .f32⟩
  | .hbm, ⟨9, _⟩ => ⟨S_, .f32⟩
  | .hbm, ⟨10, _⟩ => ⟨S262144x1, .f32⟩
  | .hbm, ⟨11, _⟩ => ⟨S262144x1, .f32⟩
  | .hbm, ⟨12, _⟩ => ⟨S262144x64, .f32⟩
  | .hbm, ⟨13, _⟩ => ⟨S262144x64, .f32⟩
  | .hbm, ⟨14, _⟩ => ⟨S262144x64x1, .f32⟩
  | .hbm, ⟨15, _⟩ => ⟨S1x1x16, .f32⟩
  | .hbm, ⟨16, _⟩ => ⟨S262144x64x16, .f32⟩
  | .hbm, ⟨17, _⟩ => ⟨S262144x64x16, .f32⟩
  | .hbm, ⟨18, _⟩ => ⟨S262144x64x16, .f32⟩
  | .hbm, ⟨19, _⟩ => ⟨S262144x64x16, .f32⟩
  | .hbm, ⟨20, _⟩ => ⟨S262144x64x16, .i32⟩
  | .hbm, ⟨21, _⟩ => ⟨S_, .f32⟩
  | .hbm, ⟨22, _⟩ => ⟨S_, .i32⟩
  | .hbm, ⟨23, _⟩ => ⟨S262144x64, .f32⟩
  | .hbm, ⟨24, _⟩ => ⟨S262144x64, .i32⟩
  | .hbm, ⟨25, _⟩ => ⟨S_, .i32⟩
  | .hbm, ⟨26, _⟩ => ⟨S262144x64, .i32⟩
  | .hbm, ⟨27, _⟩ => ⟨S262144x64, .i1⟩
  | .hbm, ⟨28, _⟩ => ⟨S_, .i32⟩
  | .hbm, ⟨29, _⟩ => ⟨S262144x64, .i32⟩
  | .hbm, ⟨30, _⟩ => ⟨S262144x64, .i32⟩
  | .hbm, ⟨31, _⟩ => ⟨S262144x64, .i32⟩
  | .hbm, ⟨32, _⟩ => ⟨S262144x64x1, .i32⟩
  | .hbm, ⟨33, _⟩ => ⟨S1, .i32⟩
  | .hbm, ⟨34, _⟩ => ⟨S_, .i32⟩
  | .hbm, ⟨35, _⟩ => ⟨S262144x64x1, .i32⟩
  | .hbm, ⟨36, _⟩ => ⟨S262144x64x1, .i1⟩
  | .hbm, ⟨37, _⟩ => ⟨S1x1x1, .i32⟩
  | .hbm, ⟨38, _⟩ => ⟨S262144x64x1, .i32⟩
  | .hbm, ⟨39, _⟩ => ⟨S262144x64x1, .i1⟩
  | .hbm, ⟨40, _⟩ => ⟨S262144x64x1, .i1⟩
  | .hbm, ⟨41, _⟩ => ⟨S_, .i1⟩
  | .hbm, ⟨42, _⟩ => ⟨S262144x64, .i1⟩
  | .hbm, ⟨43, _⟩ => ⟨S262144x64, .f32⟩
  | .hbm, ⟨44, _⟩ => ⟨S_, .f32⟩
  | .hbm, ⟨45, _⟩ => ⟨S262144x64, .f32⟩
  | .hbm, ⟨46, _⟩ => ⟨S262144x64, .f32⟩
  | .hbm, ⟨47, _⟩ => ⟨S262144x64, .f32⟩
  | .hbm, ⟨48, _⟩ => ⟨S262144x64, .f32⟩
  | .hbm, ⟨49, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call1_v0 : Ref sig .tc := ⟨.hbm, 20, rfl⟩
abbrev main_call1_cst : Ref sig .tc := ⟨.hbm, 21, rfl⟩
abbrev main_call1_c : Ref sig .tc := ⟨.hbm, 22, rfl⟩
abbrev main_call1_v1_0 : Ref sig .tc := ⟨.hbm, 23, rfl⟩
abbrev main_v14 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]
-- ==== Proof.Shapes.lean ====
/-
  The kernel's two inner computations written once. `scTrip` is what each of the eight loops on a vector
  subcore does in one trip (one block of 64 words, from one scratch buffer to another), and `tcFrom` is what
  the TensorCore's kernel does with its 32 groups of 128 columns. The printed loops and the printed kernel are
  these, by unfolding.
-/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof.Nf4

open Cert.KernelIdeal Cert.KernelIdeal.Gen
open Idealize.ShloMosaic Idealize.SL.Sem

variable {F : FTy → Type} [FloatOps F] [Named F]

/-! ## The chain of thresholds -/

/-- One link: where `v` exceeds the threshold `t`, the level `c`; elsewhere what was chosen before. -/
def link {s : Shape} (v : FVec F s .f32) (t : F .f32) (c : BitVec 32) (w : FVec F s .f32) : FVec F s .f32 :=
  select (cmpf .ogt v (broadcast s t)) (broadcast s (Scalar.ofBits .f32 c)) w

/-- The chosen levels: fifteen links over the lowest level, the thresholds taken through `f`. -/
def chain {s : Shape} (v : FVec F s .f32) (f : F .f32 → F .f32) : FVec F s .f32 :=
  link v (f (Named.named κ "mid14" 0x3F5C89DA#32)) 0x3F800000#32 <|
  link v (f (Named.named κ "mid13" 0x3F248DAF#32)) 0x3F3913B3#32 <|
  link v (f (Named.named κ "mid12" 0x3F006D04#32)) 0x3F1007AB#32 <|
  link v (f (Named.named κ "mid11" 0x3EC753F9#32)) 0x3EE1A4B8#32 <|
  link v (f (Named.named κ "mid10" 0x3E9582D4#32)) 0x3EAD033A#32 <|
  link v (f (Named.named κ "mid9" 0x3E5067E0#32)) 0x3E7C04DD#32 <|
  link v (f (Named.named κ "mid8" 0x3DF64862#32)) 0x3E24CAE3#32 <|
  link v (f (Named.named κ "mid7" 0x3D22FAFF#32)) 0x3DA2FAFF#32 <|
  link v (f (Named.named κ "mid6" 0xBD3A7871#32)) 0x00000000#32 <|
  link v (f (Named.named κ "mid5" 0xBE0D38BC#32)) 0xBDBA7871#32 <|
  link v (f (Named.named κ "mid4" 0xBE703CEC#32)) 0xBE3D353F#32 <|
  link v (f (Named.named κ "mid3" 0xBEADEA76#32)) 0xBE91A24D#32 <|
  link v (f (Named.named κ "mid2" 0xBEEB8480#32)) 0xBECA32A0#32 <|
  link v (f (Named.named κ "mid1" 0xBF1C5270#32)) 0xBF066B30#32 <|
  link v (f (Named.named κ "mid0" 0xBF591CD8#32)) 0xBF3239B1#32 <|
  broadcast s (Scalar.ofBits .f32 0xBF800000#32)

/-! ## One block on a vector subcore -/

/-- The clipped absolute maximum of a block, from its four vectors of sixteen words. -/
def scAm (a b c e : Vec F S1x16 .f32) : F .f32 :=
  k0_pay13 (k0_pay5 a b c e) (k0_pay6 a b c e) (k0_pay7 a b c e) (k0_pay8 a b c e) (k0_pay9 a b c e) (k0_pay10 a b c e)
    (k0_pay11 a b c e) (k0_pay12 a b c e)

/-- Sixteen words of a block with clipped absolute maximum `am`, quantised and scaled back. -/
def scOut (am : F .f32) (a : Vec F S1x16 .f32) : Vec F S1x16 .f32 :=
  shapeCast S1x16 (mulf (chain (shapeCast S16 a shapeCasts_S1x16_S16) (Scalar.mulf am)) (broadcast S16 am)) shapeCasts_S16_S1x16

/-- The sixteen words of block `t` at the `j`-th quarter of the block. -/
abbrev lane (t : Fin k0_t1_loop.trips) (j : Fin 4) : Rect S4x4096 :=
  Rect.unit (s := S4x4096) (k0_off2 t (BitVec.ofNat 32 (16 * j.val))) S1x16.size (k0_off2_inb t j)

/-- One trip: the block's four vectors read from `src`, each quantised and written to the same place of `dst`. -/
def scTrip (i : grid0.Coords) (src dst : Memref sig .scVector .vmem S4x4096 .f32) (t : Fin k0_t1_loop.trips) :
    Prog (TpuEff nD τ sig (Elt F) Λ₀ (.scVector ((i 0).castLE hcore0) ((i 1).castLE hsub0))) Unit := do
  let a : Vec F S1x16 .f32 ← Prog.lift (.load src (lane t 0).toLoadRect (View.loadsAt_vmem h_S1x16))
  let b : Vec F S1x16 .f32 ← Prog.lift (.load src (lane t 1).toLoadRect (View.loadsAt_vmem h_S1x16))
  let c : Vec F S1x16 .f32 ← Prog.lift (.load src (lane t 2).toLoadRect (View.loadsAt_vmem h_S1x16))
  let e : Vec F S1x16 .f32 ← Prog.lift (.load src (lane t 3).toLoadRect (View.loadsAt_vmem h_S1x16))
  let _ : Vec F S1x16 .f32 ← Prog.lift (.load dst (lane t 0).toLoadRect (View.loadsAt_vmem h_S1x16))
  Prog.lift (.store dst (lane t 0) (scOut (scAm a b c e) a) Finset.univ (View.stores_vmem_bits_univ h_S1x16 rfl) (.inl rfl))
  let _ : Vec F S1x16 .f32 ← Prog.lift (.load dst (lane t 1).toLoadRect (View.loadsAt_vmem h_S1x16))
  Prog.lift (.store dst (lane t 1) (scOut (scAm a b c e) b) Finset.univ (View.stores_vmem_bits_univ h_S1x16 rfl) (.inl rfl))
  let _ : Vec F S1x16 .f32 ← Prog.lift (.load dst (lane t 2).toLoadRect (View.loadsAt_vmem h_S1x16))
  Prog.lift (.store dst (lane t 2) (scOut (scAm a b c e) c) Finset.univ (View.stores_vmem_bits_univ h_S1x16 rfl) (.inl rfl))
  let _ : Vec F S1x16 .f32 ← Prog.lift (.load dst (lane t 3).toLoadRect (View.loadsAt_vmem h_S1x16))
  Prog.lift (.store dst (lane t 3) (scOut (scAm a b c e) e) Finset.univ (View.stores_vmem_bits_univ h_S1x16 rfl) (.inl rfl))
  pure ⟨⟩

section Loops

variable (i : grid0.Coords) (arg2 : Memref sig .scVector .hbm S4096x4096 .f32) (harg2 : arg2.IsWhole)
  (arg3 : Memref sig .scVector .hbm S1024x4096 .f32) (harg3 : arg3.IsWhole) (arg4 : Memref sig .scVector .vmem S4x4096 .f32) (harg4 : arg4.IsWhole)
  (arg5 : Memref sig .scVector .vmem S4x4096 .f32) (harg5 : arg5.IsWhole) (arg6 : Memref sig .scVector .vmem S4x4096 .f32) (harg6 : arg6.IsWhole)
  (arg7 : Memref sig .scVector .vmem S4x4096 .f32) (harg7 : arg7.IsWhole) (arg8 arg9 arg10 arg11 : DmaSems sig S_) (v2 : BitVec 32)

theorem t1_body_eq : k0_t1_body (F := F) i arg2 harg2 arg3 harg3 arg4 harg4 arg5 harg5 arg6 harg6 arg7 harg7 arg8 arg9 arg10 arg11
    = fun t _ => scTrip i arg4 arg6 t := rfl
theorem t2_body_eq : k0_t2_body (F := F) i arg2 harg2 arg3 harg3 arg4 harg4 arg5 harg5 arg6 harg6 arg7 harg7 arg8 arg9 arg10 arg11
    = fun t _ => scTrip i arg5 arg7 t := rfl
theorem t3_body_eq : k0_t3_body (F := F) i arg2 harg2 arg3 harg3 arg4 harg4 arg5 harg5 arg6 harg6 arg7 harg7 arg8 arg9 arg10 arg11 v2
    = fun t _ => scTrip i arg4 arg6 t := rfl
theorem t4_body_eq : k0_t4_body (F := F) i arg2 harg2 arg3 harg3 arg4 harg4 arg5 harg5 arg6 harg6 arg7 harg7 arg8 arg9 arg10 arg11 v2
    = fun t _ => scTrip i arg5 arg7 t := rfl
theorem t5_body_eq : k0_t5_body (F := F) i arg2 harg2 arg3 harg3 arg4 harg4 arg5 harg5 arg6 harg6 arg7 harg7 arg8 arg9 arg10 arg11 v2
    = fun t _ => scTrip i arg4 arg6 t := rfl
theorem t6_body_eq : k0_t6_body (F := F) i arg2 harg2 arg3 harg3 arg4 harg4 arg5 harg5 arg6 harg6 arg7 harg7 arg8 arg9 arg10 arg11 v2
    = fun t _ => scTrip i arg5 arg7 t := rfl
theorem t7_body_eq : k0_t7_body (F := F) i arg2 harg2 arg3 harg3 arg4 harg4 arg5 harg5 arg6 harg6 arg7 harg7 arg8 arg9 arg10 arg11 v2
    = fun t _ => scTrip i arg4 arg6 t := rfl
theorem t8_body_eq : k0_t8_body (F := F) i arg2 harg2 arg3 harg3 arg4 harg4 arg5 harg5 arg6 harg6 arg7 harg7 arg8 arg9 arg10 arg11
    = fun t _ => scTrip i arg5 arg7 t := rfl

end Loops

/-! ## The TensorCore's groups of columns -/

/-- The clipped absolute maxima of the two blocks in each row of a group, spread over their columns. -/
def tcAm (v : Vec F S128x128 .f32) : FVec F S128x128 .f32 :=
  maximumf (concatenate S128x128 1
      [⟨S128x64, broadcastTo S128x64 (shapeCast S128x1 (shapeCast S128x1 (multiReduction .maximumf [1] S128
          (extractStridedSlice S128x64 ![0, 0] (absf v) slices_S128x128_o0_0_S128x64) 0xFF800000#32 reduces_S128x64_S128 (.inl rfl) rfl)
          shapeCasts_S128_S128x1) shapeCasts_S128x1_S128x1) broadcasts_S128x1_S128x64⟩,
        ⟨S128x64, broadcastTo S128x64 (shapeCast S128x1 (shapeCast S128x1 (multiReduction .maximumf [1] S128
          (extractStridedSlice S128x64 ![0, 64] (absf v) slices_S128x128_o0_64_S128x64) 0xFF800000#32 reduces_S128x64_S128 (.inl rfl) rfl)
          shapeCasts_S128_S128x1) shapeCasts_S128x1_S128x1) broadcasts_S128x1_S128x64⟩] concatenates_S128x64_S128x64_S128x128_d1)
    (broadcast S128x128 (Scalar.ofBits .f32 0x322BCC77#32))

/-- A group quantised and scaled back. -/
def tcVal (v : Vec F S128x128 .f32) : FVec F S128x128 .f32 :=
  mulf (chain (divf v (tcAm v)) fun t => t) (tcAm v)

theorem group_inb (g : ℕ) (h : g < 32) : ∀ a, (![0, 128 * g] : Fin 2 → ℕ) a + S128x128.size a ≤ S128x4096.size a := by
  intro a; match a with
  | 0 => show 0 + 128 ≤ 128; omega
  | 1 => show 128 * g + 128 ≤ 4096; omega

/-- Columns `128 g` to `128 g + 127`. -/
abbrev group (g : ℕ) (h : g < 32) : Rect S128x4096 := Rect.unit (s := S128x4096) ![0, 128 * g] S128x128.size (group_inb g h)

/-- The groups from `g` on, `n` of them. -/
def tcFrom (arg1 arg2 : Memref sig .tc .vmem S128x4096 .f32) : (n g : ℕ) → g + n ≤ 32 → Prog (TpuEff nD τ sig (Elt F) Λ₀ .tc) PUnit
  | 0, _, _ => pure ⟨⟩
  | n + 1, g, h => do
    let v : Vec F S128x128 .f32 ← Prog.lift (.load arg1 (group g (by omega)).toLoadRect (View.loadsAt_vmem h_S128x128))
    let _ : Vec F S128x128 .f32 ← Prog.lift (.load arg2 (group g (by omega)).toLoadRect (View.loadsAt_vmem h_S128x128))
    Prog.lift (.store arg2 (group g (by omega)) (tcVal v) Finset.univ (View.stores_vmem_bits_univ h_S128x128 rfl) (.inl rfl))
    tcFrom arg1 arg2 n (g + 1) (by omega)

theorem tc_kernel_eq (i : grid1.Coords) (arg1 : Memref sig .tc .vmem S128x4096 .f32) (harg1 : arg1.IsWhole) (arg2 : Memref sig .tc .vmem S128x4096 .f32)
    (harg2 : arg2.IsWhole) : cc1__tc_kernel (F := F) i arg1 harg1 arg2 harg2 = tcFrom arg1 arg2 32 0 (by omega) := rfl

end Cert.Proof.Nf4

end
-- ==== Proof.Common.lean ====
/-
  The program as the launch theorem sees it, the resource algebra, and the buffers.
-/
module

public import proofs.«01_k».proof.Proof.Shapes
public import proofs.«01_k».proof.Proof.Gen.KernelIdeal.Launch
public import proofs.«01_k».proof.Proof.Gen.KernelIdeal.Points
public import Idealize.ShloMosaic.Lib.SparseCore.Quiescent
public import Idealize.ShloMosaic.Lib.Pipeline.Kit
public import Idealize.ShloMosaic.Lib.Pipeline.Regions
public import Idealize.ShloMosaic.Lib.StableHlo.Run
public import Idealize.ShloMosaic.Lib.Tactic

@[expose] public section

noncomputable section

namespace Cert.Proof.Nf4

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-- The handshakes' rounds, the left factor. -/
abbrev EH : Emb UH (MT nD τ sig (HIx 1) (Elt F) ℕ UU ℕ) := embL
/-- The pipelines' rounds, the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev xLoc (d : Dev nD) : Loc nD τ sig := (SparseCore.T d).loc main_arg0
abbrev lLoc (d : Dev nD) : Loc nD τ sig := (SparseCore.T d).loc main_arg1
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

end Cert.Proof.Nf4

end
-- ==== Proof.Loop.lean ====
/-
  One loop of the vector subcores' body: from a scratch buffer holding `x`, its 256 trips leave in the other
  scratch buffer `scBlk x`, the four rows quantised block by block.
-/
module

public import proofs.«01_k».proof.Proof.Common
public import Idealize.ShloMosaic.Lib.Writes

@[expose] public section

noncomputable section

namespace Cert.Proof.Nf4

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Where a trip's four vectors lie -/

theorem trips_eq : k0_t1_loop.trips = 256 := by decide

theorem k0_off2_closed : ∀ (t : Fin k0_t1_loop.trips) (j : Fin 4),
    k0_off2 t (BitVec.ofNat 32 (16 * j.val)) = ![t.val / 64, 64 * (t.val % 64) + 16 * j.val] := by decide +kernel

/-- The block that an index of a buffer lies in, counted along the rows. -/
def blockNo (y : S4x4096.Idx) : ℕ := (y 0).val * 64 + (y 1).val / 64

theorem blockNo_lt (y : S4x4096.Idx) : blockNo y < k0_t1_loop.trips := by
  have h0 : (y 0).val < 4 := (y 0).isLt
  have h1 : (y 1).val < 4096 := (y 1).isLt
  rw [trips_eq]; unfold blockNo; omega

/-- That block as a trip, the quarter of it, and the place in the quarter. -/
def tripOf (y : S4x4096.Idx) : Fin k0_t1_loop.trips := ⟨blockNo y, blockNo_lt y⟩
def quarter (y : S4x4096.Idx) : Fin 4 := ⟨(y 1).val % 64 / 16, by omega⟩
def place (y : S4x4096.Idx) : S1x16.Idx := fun a => match a with
  | 0 => ⟨0, Nat.one_pos⟩
  | 1 => ⟨(y 1).val % 16, Nat.mod_lt _ (by decide)⟩

theorem lane_emb_val (t : Fin k0_t1_loop.trips) (j : Fin 4) (x : (lane t j).shape.Idx) :
    ((lane t j).emb x 0).val = t.val / 64 ∧ ((lane t j).emb x 1).val = 64 * (t.val % 64) + 16 * j.val + (x 1).val := by
  have h0 : (x 0).val < 1 := (x 0).isLt
  constructor
  · rw [Rect.emb_apply]
    show k0_off2 t (BitVec.ofNat 32 (16 * j.val)) 0 + 1 * (x 0).val = _
    rw [k0_off2_closed]; show t.val / 64 + 1 * (x 0).val = _; omega
  · rw [Rect.emb_apply]
    show k0_off2 t (BitVec.ofNat 32 (16 * j.val)) 1 + 1 * (x 1).val = _
    rw [k0_off2_closed]; show 64 * (t.val % 64) + 16 * j.val + 1 * (x 1).val = _; omega

theorem lane_emb_place (y : S4x4096.Idx) : (lane (tripOf y) (quarter y)).emb (place y) = y := by
  have h0 : (y 0).val < 4 := (y 0).isLt
  have h1 : (y 1).val < 4096 := (y 1).isLt
  obtain ⟨e0, e1⟩ := lane_emb_val (tripOf y) (quarter y) (place y)
  funext a
  match a with
  | 0 => refine Fin.ext (e0.trans ?_); show blockNo y / 64 = _; unfold blockNo; omega
  | 1 =>
    refine Fin.ext (e1.trans ?_)
    show 64 * (blockNo y % 64) + 16 * ((y 1).val % 64 / 16) + (y 1).val % 16 = _
    unfold blockNo; omega

theorem lane_coords (t : Fin k0_t1_loop.trips) (j : Fin 4) (x : (lane t j).shape.Idx) :
    tripOf ((lane t j).emb x) = t ∧ quarter ((lane t j).emb x) = j ∧ place ((lane t j).emb x) = x := by
  obtain ⟨e0, e1⟩ := lane_emb_val t j x
  have ht : t.val < 256 := trips_eq ▸ t.isLt
  have hj := j.isLt
  have h0 : (x 0).val < 1 := (x 0).isLt
  have h1 : (x 1).val < 16 := (x 1).isLt
  refine ⟨Fin.ext ?_, Fin.ext ?_, ?_⟩
  · show ((lane t j).emb x 0).val * 64 + ((lane t j).emb x 1).val / 64 = _
    rw [e0, e1]; omega
  · show ((lane t j).emb x 1).val % 64 / 16 = _
    rw [e1]; omega
  · funext a
    match a with
    | 0 => exact Fin.ext (by show 0 = (x 0).val; omega)
    | 1 => exact Fin.ext (by show ((lane t j).emb x 1).val % 16 = (x 1).val; rw [e1]; omega)

/-! ## What the loop computes -/

/-- Quarter `j` of block `t` of a buffer's contents. -/
def laneOf (x : S4x4096.Idx → Elt F .f32) (t : Fin k0_t1_loop.trips) (j : Fin 4) : Vec F S1x16 .f32 := fun i => x ((lane t j).emb i)

/-- The clipped absolute maximum of block `t`. -/
def blockAm (x : S4x4096.Idx → Elt F .f32) (t : Fin k0_t1_loop.trips) : F .f32 :=
  scAm (laneOf x t 0) (laneOf x t 1) (laneOf x t 2) (laneOf x t 3)

/-- Four rows quantised block by block. -/
def scBlk (x : S4x4096.Idx → Elt F .f32) (y : S4x4096.Idx) : Elt F .f32 :=
  scOut (blockAm x (tripOf y)) (laneOf x (tripOf y) (quarter y)) (place y)

theorem scBlk_emb (x : S4x4096.Idx → Elt F .f32) (t : Fin k0_t1_loop.trips) (j : Fin 4) (i : (lane t j).shape.Idx) :
    scBlk x ((lane t j).emb i) = scOut (blockAm x t) (laneOf x t j) i := by
  obtain ⟨h1, h2, h3⟩ := lane_coords t j i
  unfold scBlk; rw [h1, h2, h3]

/-- The four writes of trip `t`, the last first. -/
abbrev tripWrites (x : S4x4096.Idx → Elt F .f32) (t : Fin k0_t1_loop.trips) : List (View.Piece (Elt F) S4x4096 .f32) :=
  [⟨lane t 3, scOut (blockAm x t) (laneOf x t 3)⟩, ⟨lane t 2, scOut (blockAm x t) (laneOf x t 2)⟩,
    ⟨lane t 1, scOut (blockAm x t) (laneOf x t 1)⟩, ⟨lane t 0, scOut (blockAm x t) (laneOf x t 0)⟩]

theorem tripWrites_mem (x : S4x4096.Idx → Elt F .f32) (t : Fin k0_t1_loop.trips) (p) (hp : p ∈ tripWrites x t) :
    ∃ j : Fin 4, p = ⟨lane t j, scOut (blockAm x t) (laneOf x t j)⟩ := by
  simp only [tripWrites, List.mem_cons, List.not_mem_nil, or_false] at hp
  rcases hp with rfl | rfl | rfl | rfl
  exacts [⟨3, rfl⟩, ⟨2, rfl⟩, ⟨1, rfl⟩, ⟨0, rfl⟩]

/-- After trip `t` the blocks up to `t` hold what they should, if those before `t` did. -/
theorem read_tripWrites {sp : Space} (v : View sig .scVector sp S4x4096 .f32) (g : v.ty.Contents (Elt F)) (x : S4x4096.Idx → Elt F .f32)
    (t : Fin k0_t1_loop.trips) (hg : ∀ y, blockNo y < t.val → v.read (Elt F) g y = scBlk x y) (y : S4x4096.Idx) (hy : blockNo y < t.val + 1) :
    v.read (Elt F) (v.writes (Elt F) g (tripWrites x t)) y = scBlk x y := by
  by_cases h : tripOf y = t
  · refine View.read_writes_apply_of_pieces v g (scBlk x) _ (fun p hp i => ?_) y ?_
    · obtain ⟨j, rfl⟩ := tripWrites_mem x t p hp
      exact (scBlk_emb x t j i).symm
    · have hm : y ∈ (lane t (quarter y)).set := by
        have hp : (lane (tripOf y) (quarter y)).emb (place y) ∈ (lane (tripOf y) (quarter y)).set := by
          rw [← Rect.map_emb_univ]; exact Finset.mem_map_of_mem _ (Finset.mem_univ (place y))
        rw [lane_emb_place] at hp
        rwa [h] at hp
      refine ⟨⟨lane t (quarter y), scOut (blockAm x t) (laneOf x t (quarter y))⟩, ?_, hm⟩
      generalize quarter y = j
      match j with
      | 0 => simp
      | 1 => simp
      | 2 => simp
      | 3 => simp
  · rw [View.read_writes_apply_of_forall_not_mem v g y _ fun p hp hm => ?_]
    · refine hg y (lt_of_le_of_ne (Nat.lt_succ_iff.mp hy) fun e => h (Fin.ext e))
    · obtain ⟨j, rfl⟩ := tripWrites_mem x t p hp
      obtain ⟨i, rfl⟩ := (lane t j).exists_idx_of_mem hm
      exact h (lane_coords t j i).1

/-! ## The run of a loop -/

local notation "𝕄" => MT nD τ sig (HIx 1) (Elt F) ℕ UU ℕ

section Run

variable (d : Dev nD) (L : grid0.Coords)

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

variable (src dst : Memref sig .scVector .vmem S4x4096 .f32)

/-- Before trip `k`: the source buffer reads `x`, and the blocks before `k` are done in the other buffer. -/
def loopInv (x : S4x4096.Idx → Elt F .f32) (k : ℕ) (_ : PUnit) : sProp 𝕄 :=
  iprop((∃ f, ⌜src.view.read (Elt F) f = x⌝ ∗ src.view.loc (tV d L) ↦[src.view.set]{fullShare} f)
    ∗ ∃ g, ⌜∀ y, blockNo y < k → dst.view.read (Elt F) g y = scBlk x y⌝ ∗ dst.view.loc (tV d L) ↦[dst.view.set]{fullShare} g)

theorem trip_wp (x : S4x4096.Idx → Elt F .f32) (t : Fin k0_t1_loop.trips) :
    loopInv (F := F) d L src dst x t.val ⟨⟩
      ⊢ wp frame (wpE (defs₀ (F := F)) 𝒱₀ (tV d L) none) Set.univ (scTrip L src dst t) fun _ => loopInv d L src dst x (t.val + 1) ⟨⟩ := by
  unfold loopInv scTrip
  simp only [Prog.lift, Prog.bind_op, Prog.bind_ret, Prog.pure_eq_ret]
  iintro ⟨⟨%f, %hf, Hs⟩, %g, %hg, Hd⟩
  subst hf
  sl_exec
  sl_step
  isplitl [Hs]
  · iexists _; isplitr
    swap; · iexact Hs
    ipureintro; rfl
  iexists _
  isplitr
  swap; · iexact Hd
  ipureintro
  exact read_tripWrites dst.view g (src.view.read (Elt F) f) t hg

/-- Before the first trip: what the source reads, and any contents of the other buffer. -/
theorem loopInv_zero (x : S4x4096.Idx → Elt F .f32) (f : Buf (Elt F) (src.view.loc (tV d L))) (g : Buf (Elt F) (dst.view.loc (tV d L)))
    (hf : src.view.read (Elt F) f = x) :
    iprop((src.view.loc (tV d L) ↦[src.view.set]{fullShare} f) ∗ dst.view.loc (tV d L) ↦[dst.view.set]{fullShare} g)
      ⊢ loopInv (F := F) d L src dst x 0 ⟨⟩ := by
  unfold loopInv
  iintro ⟨Hs, Hd⟩
  isplitl [Hs]
  · iexists f; isplitr
    swap; · iexact Hs
    ipureintro; exact hf
  iexists g
  isplitr
  swap; · iexact Hd
  ipureintro
  exact fun _ h => absurd h (Nat.not_lt_zero _)

/-- After the last trip: the other buffer reads `scBlk x`. -/
theorem loopInv_end (x : S4x4096.Idx → Elt F .f32) (a : PUnit) :
    loopInv (F := F) d L src dst x k0_t1_loop.trips a
      ⊢ iprop((∃ f, src.view.loc (tV d L) ↦[src.view.set]{fullShare} f)
        ∗ ∃ g, ⌜dst.view.read (Elt F) g = scBlk x⌝ ∗ dst.view.loc (tV d L) ↦[dst.view.set]{fullShare} g) := by
  unfold loopInv
  iintro ⟨⟨%f, -, Hs⟩, %g, %hg, Hd⟩
  isplitl [Hs]; · iexists f; iexact Hs
  iexists g
  isplitr
  swap; · iexact Hd
  ipureintro
  exact funext fun y => hg y (blockNo_lt y)

end Run

end Cert.Proof.Nf4

end
-- ==== Proof.Tile.lean ====
/-
  The task of one vector subcore: eight chunks of four rows, each fetched, quantised block by block and written back.
-/
module

public import proofs.«01_k».proof.Proof.Loop

@[expose] public section

noncomputable section

namespace Cert.Proof.Nf4

open Cert.KernelIdeal Cert.KernelIdeal.Gen
open Idealize.ShloMosaic
open Idealize.ShloMosaic.SparseCore (S V T)
open Idealize.ShloMosaic.SparseCore.Cfg (HIx Pay ownCells mem_ownCells ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## The chunks -/

abbrev xV : Memref sig .scVector .hbm S4096x4096 .f32 := Memref.whole main_arg0_scv
abbrev aV : Memref sig .scVector .hbm S1024x4096 .f32 := Memref.whole main_v0_scv
abbrev s0 : Memref sig .scVector .vmem S4x4096 .f32 := Memref.whole cc0_scratch0
abbrev s1 : Memref sig .scVector .vmem S4x4096 .f32 := Memref.whole cc0_scratch1
abbrev s2 : Memref sig .scVector .vmem S4x4096 .f32 := Memref.whole cc0_scratch2
abbrev s3 : Memref sig .scVector .vmem S4x4096 .f32 := Memref.whole cc0_scratch3

/-- Chunk `k` of the subcore's rows of `x`, and of the array it writes. -/
abbrev xC (L : grid0.Coords) (k : Fin 8) : Memref sig .scVector .hbm S4x4096 .f32 :=
  xV.slice (Rect.unit (s := S4096x4096) (k0_off1 L (BitVec.ofNat 32 (4 * k.val))) S4x4096.size (k0_off1_inb L k)) (fun _ => rfl)
abbrev aC (L : grid0.Coords) (k : Fin 8) : Memref sig .scVector .hbm S4x4096 .f32 :=
  aV.slice (Rect.unit (s := S1024x4096) (k0_off3 L (BitVec.ofNat 32 (4 * k.val))) S4x4096.size (k0_off3_inb L k)) (fun _ => rfl)

section Tile

variable (d : Dev nD) (L : grid0.Coords)

abbrev xPts (L : grid0.Coords) (k : Fin 8) (f : Buf (Elt F) (xLoc d)) : sProp 𝕄 := (xC L k).view.loc (tV d L) ↦[(xC L k).view.set]{fullShare} f
abbrev aPts (L : grid0.Coords) (k : Fin 8) (f : Buf (Elt F) (aLoc d)) : sProp 𝕄 := (aC L k).view.loc (tV d L) ↦[(aC L k).view.set]{fullShare} f

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The semaphores' cells and the buffers of the subcore. -/
abbrev cell (d : Dev nD) (c : Fin τ.nSC) (i : Fin τ.nSub) (s : DmaSems sig S_) : GSem nD τ sig := (V d c i, .dma s.sem)

theorem ownSems0_V :
    (SparseCore.Cfg.ownSems0 (tV d L) : sProp 𝕄)
      = iprop(semVal (cell d (cV L) (jV L) cc0_scratch4) 0 ∗ semVal (cell d (cV L) (jV L) cc0_scratch5) 0
          ∗ semVal (cell d (cV L) (jV L) cc0_scratch6) 0 ∗ semVal (cell d (cV L) (jV L) cc0_scratch7) 0
          ∗ bigSep (((((ownCells (tV d L)).erase (cell d (cV L) (jV L) cc0_scratch4)).erase (cell d (cV L) (jV L) cc0_scratch5)).erase
              (cell d (cV L) (jV L) cc0_scratch6)).erase (cell d (cV L) (jV L) cc0_scratch7)) fun g => semVal g 0) := by
  have hm : ∀ s : DmaSems sig S_, (SemLoc.dma s.sem : SemLoc sig).isScoped .scVector = true → cell d (cV L) (jV L) s ∈ ownCells (tV d L) :=
    fun s h => mem_ownCells.mpr ⟨rfl, h⟩
  have hne : ∀ s s' : DmaSems sig S_, s.sem ≠ s'.sem → cell d (cV L) (jV L) s ≠ cell d (cV L) (jV L) s' :=
    fun s s' h e => h (SemLoc.dma.inj (Prod.mk.inj e).2)
  unfold SparseCore.Cfg.ownSems0
  rw [SparseCore.bigSep_erase' (hm cc0_scratch4 (by decide)),
    SparseCore.bigSep_erase' (Finset.mem_erase.mpr ⟨hne cc0_scratch5 cc0_scratch4 (by decide), hm cc0_scratch5 (by decide)⟩),
    SparseCore.bigSep_erase' (Finset.mem_erase.mpr ⟨hne cc0_scratch6 cc0_scratch5 (by decide),
      Finset.mem_erase.mpr ⟨hne cc0_scratch6 cc0_scratch4 (by decide), hm cc0_scratch6 (by decide)⟩⟩),
    SparseCore.bigSep_erase' (Finset.mem_erase.mpr ⟨hne cc0_scratch7 cc0_scratch6 (by decide), Finset.mem_erase.mpr ⟨hne cc0_scratch7 cc0_scratch5 (by decide),
      Finset.mem_erase.mpr ⟨hne cc0_scratch7 cc0_scratch4 (by decide), hm cc0_scratch7 (by decide)⟩⟩⟩)]

abbrev devRefV (L : grid0.Coords) (b : Ref sig .scVector) : DevRef τ sig := (Proc.scVector (cV L) (jV L)).devRef b

theorem ownBufs_V :
    (SparseCore.Cfg.ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f) ∗ (∃ f, (tV d L).loc cc0_scratch3 ↦{fullShare} f)
          ∗ bigSep (((((ownRefs (τ := τ) (.scVector (cV L) (jV L))).erase (devRefV L cc0_scratch0)).erase (devRefV L cc0_scratch1)).erase
              (devRefV L cc0_scratch2)).erase (devRefV L cc0_scratch3)) fun b => iprop(∃ f, ((d, b) : Loc nD τ sig) ↦{fullShare} f)) := by
  have hm : ∀ b : Ref sig .scVector, (devRefV L b).owner = .proc (.scVector (cV L) (jV L)) → devRefV L b ∈ ownRefs (τ := τ) (.scVector (cV L) (jV L)) :=
    fun b h => SparseCore.Cfg.mem_ownRefs_of_owner (p := Proc.scVector (cV L) (jV L)) h
  have hne : ∀ b b' : Ref sig .scVector, b ≠ b' → devRefV L b ≠ devRefV L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

/-- A scratch buffer whole, as the body addresses it. -/
theorem pts_scratch (b : Ref sig .scVector) (f : Buf (Elt F) ((tV d L).loc b)) :
    ((Memref.whole b).view.loc (tV d L) ↦[(Memref.whole b).view.set]{fullShare} f : sProp 𝕄) = (tV d L).loc b ↦{fullShare} f := by
  simp only [Memref.view_whole, View.set_whole]

/-! ## What the subcores compute -/

/-- All the subcores' rows of the result. -/
def scAll (x : S4096x4096.Idx → Elt F .f32) (y : S1024x4096.Idx) : Elt F .f32 :=
  scBlk (fun z : S4x4096.Idx => x (fun a => match a with
      | 0 => ⟨4 * ((y 0).val / 4) + (z 0).val, by
          have h0 : (y 0).val < 1024 := (y 0).isLt
          have h1 : (z 0).val < 4 := (z 0).isLt
          show _ < 4096; omega⟩
      | 1 => z 1))
    (fun a => match a with
      | 0 => ⟨(y 0).val % 4, Nat.mod_lt _ (by decide)⟩
      | 1 => y 1)

theorem emb_aC (k : Fin 8) (z : S4x4096.Idx) :
    ((aC L k).view.emb z 0).val = 64 * (L 1).val + 32 * (L 0).val + 4 * k.val + (z 0).val ∧ ((aC L k).view.emb z 1).val = (z 1).val := by
  constructor
  · show (k0_off3 L (BitVec.ofNat 32 (4 * k.val))) 0 + 1 * (z 0).val = _
    rw [k0_off3_eq]; show 64 * (L 1).val + 32 * (L 0).val + 4 * k.val + 1 * (z 0).val = _; omega
  · show (k0_off3 L (BitVec.ofNat 32 (4 * k.val))) 1 + 1 * (z 1).val = _
    rw [k0_off3_eq]; show 0 + 1 * (z 1).val = _; omega

theorem emb_xC (k : Fin 8) (z : S4x4096.Idx) :
    ((xC L k).view.emb z 0).val = 64 * (L 1).val + 32 * (L 0).val + 4 * k.val + (z 0).val ∧ ((xC L k).view.emb z 1).val = (z 1).val := by
  constructor
  · show (k0_off1 L (BitVec.ofNat 32 (4 * k.val))) 0 + 1 * (z 0).val = _
    rw [k0_off1_eq]; show 64 * (L 1).val + 32 * (L 0).val + 4 * k.val + 1 * (z 0).val = _; omega
  · show (k0_off1 L (BitVec.ofNat 32 (4 * k.val))) 1 + 1 * (z 1).val = _
    rw [k0_off1_eq]; show 0 + 1 * (z 1).val = _; omega

theorem read_aC (x : S4096x4096.Idx → Elt F .f32) (k : Fin 8) :
    (aC L k).view.read (Elt F) (scAll x) = scBlk ((xC L k).view.read (Elt F) x) := by
  have hk := k.isLt
  funext z
  have h0 : (z 0).val < 4 := (z 0).isLt
  obtain ⟨e0, e1⟩ := emb_aC L k z
  show scAll x ((aC L k).view.emb z) = _
  unfold scAll
  congr 1
  · funext w
    obtain ⟨f0, f1⟩ := emb_xC L k w
    show _ = x ((xC L k).view.emb w)
    congr 1
    funext a
    match a with
    | 0 => refine Fin.ext ?_; rw [f0]; show 4 * (((aC L k).view.emb z 0).val / 4) + (w 0).val = _; rw [e0]; omega
    | 1 => exact Fin.ext f1.symm
  · funext a
    match a with
    | 0 => refine Fin.ext ?_; show ((aC L k).view.emb z 0).val % 4 = _; rw [e0]; omega
    | 1 => exact Fin.ext e1

/-- A chunk of the result that reads as it should is that chunk of the whole result. -/
theorem aPts_done (x : S4096x4096.Idx → Elt F .f32) (k : Fin 8) (f : Buf (Elt F) (aLoc d))
    (hf : (aC L k).view.read (Elt F) f = scBlk ((xC L k).view.read (Elt F) x)) : (aPts d L k f : sProp 𝕄) ⊢ aPts d L k (scAll x) := by
  refine Entails.of_eq (pointsTo_congr fun i hi => ?_)
  obtain ⟨z, -, rfl⟩ := Finset.mem_map.mp hi
  have := congrFun (hf.trans (read_aC L x k).symm) z
  exact this

/-! ## The task -/

theorem tile_body (m : (ℓ : Loc nD τ sig) → Buf (Elt F) ℓ) (hF : (K (F := F)).Facts) (O : CellTallies nD τ sig (HIx 1)) (W : Waits sig (HIx 1)) (hO : ∀ g, O g none = 0) :
    iprop(levAts (K (F := F)).L (K (F := F)).lev ∗ emp
        ∗ (bigSep Finset.univ fun k : Fin 8 => iprop(xPts d L k (m (xLoc d)) ∗ ∃ f, aPts d L k f))
        ∗ scopedBufs (tV d L) ∗ scopedSems0 (tV d L) ∗ owes (tV d L) O W)
      ⊢ wp frame (wpE (defs₀ (F := F)) 𝒱₀ (tV d L) none) Set.univ
          (cc0__sc_body L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7)
          fun _ => iprop((bigSep Finset.univ fun k : Fin 8 => iprop(xPts d L k (m (xLoc d)) ∗ aPts d L k (scAll (m (xLoc d)))))
            ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V hF d (cV L) (jV L), SparseCore.Cfg.scopedSems0_V (Val := Elt F) d (cV L) (jV L), ownSems0_V, ownBufs_V]
  rw [bigSep_fin8, bigSep_fin8]
  iintro ⟨#Hlv, -, ⟨⟨Hx0, %a0, Ha0⟩, ⟨Hx1, %a1, Ha1⟩, ⟨Hx2, %a2, Ha2⟩, ⟨Hx3, %a3, Ha3⟩, ⟨Hx4, %a4, Ha4⟩, ⟨Hx5, %a5, Ha5⟩, ⟨Hx6, %a6, Ha6⟩, ⟨Hx7, %a7, Ha7⟩⟩,
    ⟨⟨%f0, Hs0⟩, ⟨%f1, Hs1⟩, ⟨%f2, Hs2⟩, ⟨%f3, Hs3⟩, Hbufs⟩, ⟨Hc0, Hc1, Hc2, Hc3, Hsems⟩, HO⟩
  ihave Hmw := (show levAts (K (F := F)).L (K (F := F)).lev ⊢ Transfers.MayWaits (tV d L) (default : HIx 1) O from
    (K (F := F)).mayWaits_none (thr := tV d L) hO) $$ Hlv
  ihave Hs0 := (Entails.of_eq (pts_scratch (F := F) d L cc0_scratch0 _).symm) $$ Hs0
  ihave Hs1 := (Entails.of_eq (pts_scratch (F := F) d L cc0_scratch1 _).symm) $$ Hs1
  ihave Hs2 := (Entails.of_eq (pts_scratch (F := F) d L cc0_scratch2 _).symm) $$ Hs2
  ihave Hs3 := (Entails.of_eq (pts_scratch (F := F) d L cc0_scratch3 _).symm) $$ Hs3
  sl_unfold [cc0__sc_body]
  sl_exec (disch := exact View.amount_pos _ _ (show 0 < S4x4096.numel by decide))
  sl_for (loopInv d L s0 s2 ((xC L 0).view.read (Elt F) (m (xLoc d)))) $$ [Hs0 Hs2]
  case region => exact fun t _ => trip_wp d L s0 s2 _ t
  · iapply (loopInv_zero d L s0 s2 _ _ _ (View.read_writes_whole s0.view _ _))
    isplitl [Hs0]; · iexact Hs0
    first | iexact Hs2 | iexact Hs3
  iintro %_ HI
  ihave HI := (loopInv_end d L s0 s2 _ _) $$ HI
  icases HI with ⟨⟨%fs00, Hs0⟩, %g0, %hg0, Hs2⟩
  sl_exec (disch := exact View.amount_pos _ _ (show 0 < S4x4096.numel by decide))
  sl_for (loopInv d L s1 s3 ((xC L 1).view.read (Elt F) (m (xLoc d)))) $$ [Hs1 Hs3]
  case region => exact fun t _ => trip_wp d L s1 s3 _ t
  · iapply (loopInv_zero d L s1 s3 _ _ _ (View.read_writes_whole s1.view _ _))
    isplitl [Hs1]; · iexact Hs1
    first | iexact Hs2 | iexact Hs3
  iintro %_ HI
  ihave HI := (loopInv_end d L s1 s3 _ _) $$ HI
  icases HI with ⟨⟨%fs11, Hs1⟩, %g1, %hg1, Hs3⟩
  sl_exec (disch := exact View.amount_pos _ _ (show 0 < S4x4096.numel by decide))
  sl_for (loopInv d L s0 s2 ((xC L 2).view.read (Elt F) (m (xLoc d)))) $$ [Hs0 Hs2]
  case region => exact fun t _ => trip_wp d L s0 s2 _ t
  · iapply (loopInv_zero d L s0 s2 _ _ _ (View.read_writes_whole s0.view _ _))
    isplitl [Hs0]; · iexact Hs0
    first | iexact Hs2 | iexact Hs3
  iintro %_ HI
  ihave HI := (loopInv_end d L s0 s2 _ _) $$ HI
  icases HI with ⟨⟨%fs02, Hs0⟩, %g2, %hg2, Hs2⟩
  sl_exec (disch := exact View.amount_pos _ _ (show 0 < S4x4096.numel by decide))
  sl_for (loopInv d L s1 s3 ((xC L 3).view.read (Elt F) (m (xLoc d)))) $$ [Hs1 Hs3]
  case region => exact fun t _ => trip_wp d L s1 s3 _ t
  · iapply (loopInv_zero d L s1 s3 _ _ _ (View.read_writes_whole s1.view _ _))
    isplitl [Hs1]; · iexact Hs1
    first | iexact Hs2 | iexact Hs3
  iintro %_ HI
  ihave HI := (loopInv_end d L s1 s3 _ _) $$ HI
  icases HI with ⟨⟨%fs13, Hs1⟩, %g3, %hg3, Hs3⟩
  sl_exec (disch := exact View.amount_pos _ _ (show 0 < S4x4096.numel by decide))
  sl_for (loopInv d L s0 s2 ((xC L 4).view.read (Elt F) (m (xLoc d)))) $$ [Hs0 Hs2]
  case region => exact fun t _ => trip_wp d L s0 s2 _ t
  · iapply (loopInv_zero d L s0 s2 _ _ _ (View.read_writes_whole s0.view _ _))
    isplitl [Hs0]; · iexact Hs0
    first | iexact Hs2 | iexact Hs3
  iintro %_ HI
  ihave HI := (loopInv_end d L s0 s2 _ _) $$ HI
  icases HI with ⟨⟨%fs04, Hs0⟩, %g4, %hg4, Hs2⟩
  sl_exec (disch := exact View.amount_pos _ _ (show 0 < S4x4096.numel by decide))
  sl_for (loopInv d L s1 s3 ((xC L 5).view.read (Elt F) (m (xLoc d)))) $$ [Hs1 Hs3]
  case region => exact fun t _ => trip_wp d L s1 s3 _ t
  · iapply (loopInv_zero d L s1 s3 _ _ _ (View.read_writes_whole s1.view _ _))
    isplitl [Hs1]; · iexact Hs1
    first | iexact Hs2 | iexact Hs3
  iintro %_ HI
  ihave HI := (loopInv_end d L s1 s3 _ _) $$ HI
  icases HI with ⟨⟨%fs15, Hs1⟩, %g5, %hg5, Hs3⟩
  sl_exec (disch := exact View.amount_pos _ _ (show 0 < S4x4096.numel by decide))
  sl_for (loopInv d L s0 s2 ((xC L 6).view.read (Elt F) (m (xLoc d)))) $$ [Hs0 Hs2]
  case region => exact fun t _ => trip_wp d L s0 s2 _ t
  · iapply (loopInv_zero d L s0 s2 _ _ _ (View.read_writes_whole s0.view _ _))
    isplitl [Hs0]; · iexact Hs0
    first | iexact Hs2 | iexact Hs3
  iintro %_ HI
  ihave HI := (loopInv_end d L s0 s2 _ _) $$ HI
  icases HI with ⟨⟨%fs06, Hs0⟩, %g6, %hg6, Hs2⟩
  sl_exec (disch := exact View.amount_pos _ _ (show 0 < S4x4096.numel by decide))
  sl_for (loopInv d L s1 s3 ((xC L 7).view.read (Elt F) (m (xLoc d)))) $$ [Hs1 Hs3]
  case region => exact fun t _ => trip_wp d L s1 s3 _ t
  · iapply (loopInv_zero d L s1 s3 _ _ _ (View.read_writes_whole s1.view _ _))
    isplitl [Hs1]; · iexact Hs1
    first | iexact Hs2 | iexact Hs3
  iintro %_ HI
  ihave HI := (loopInv_end d L s1 s3 _ _) $$ HI
  icases HI with ⟨⟨%fs17, Hs1⟩, %g7, %hg7, Hs3⟩
  sl_exec (disch := exact View.amount_pos _ _ (show 0 < S4x4096.numel by decide))
  sl_step
  isplitl [Hx0 Hx1 Hx2 Hx3 Hx4 Hx5 Hx6 Hx7 Ha0 Ha1 Ha2 Ha3 Ha4 Ha5 Ha6 Ha7]
  · isplitl [Hx0 Ha0]
    · isplitl [Hx0]; · iexact Hx0
      iapply (aPts_done (F := F) d L (m (xLoc d)) 0 _ ((View.read_writes_whole _ _ _).trans hg0)); iexact Ha0
    isplitl [Hx1 Ha1]
    · isplitl [Hx1]; · iexact Hx1
      iapply (aPts_done (F := F) d L (m (xLoc d)) 1 _ ((View.read_writes_whole _ _ _).trans hg1)); iexact Ha1
    isplitl [Hx2 Ha2]
    · isplitl [Hx2]; · iexact Hx2
      iapply (aPts_done (F := F) d L (m (xLoc d)) 2 _ ((View.read_writes_whole _ _ _).trans hg2)); iexact Ha2
    isplitl [Hx3 Ha3]
    · isplitl [Hx3]; · iexact Hx3
      iapply (aPts_done (F := F) d L (m (xLoc d)) 3 _ ((View.read_writes_whole _ _ _).trans hg3)); iexact Ha3
    isplitl [Hx4 Ha4]
    · isplitl [Hx4]; · iexact Hx4
      iapply (aPts_done (F := F) d L (m (xLoc d)) 4 _ ((View.read_writes_whole _ _ _).trans hg4)); iexact Ha4
    isplitl [Hx5 Ha5]
    · isplitl [Hx5]; · iexact Hx5
      iapply (aPts_done (F := F) d L (m (xLoc d)) 5 _ ((View.read_writes_whole _ _ _).trans hg5)); iexact Ha5
    isplitl [Hx6 Ha6]
    · isplitl [Hx6]; · iexact Hx6
      iapply (aPts_done (F := F) d L (m (xLoc d)) 6 _ ((View.read_writes_whole _ _ _).trans hg6)); iexact Ha6
    isplitl [Hx7]; · iexact Hx7
    iapply (aPts_done (F := F) d L (m (xLoc d)) 7 _ ((View.read_writes_whole _ _ _).trans hg7)); iexact Ha7
  isplitl [Hs0 Hs1 Hs2 Hs3 Hbufs]
  · isplitl [Hs0]; · iexists _; iapply (Entails.of_eq (pts_scratch (F := F) d L cc0_scratch0 _)); iexact Hs0
    isplitl [Hs1]; · iexists _; iapply (Entails.of_eq (pts_scratch (F := F) d L cc0_scratch1 _)); iexact Hs1
    isplitl [Hs2]; · iexists _; iapply (Entails.of_eq (pts_scratch (F := F) d L cc0_scratch2 _)); iexact Hs2
    isplitl [Hs3]; · iexists _; iapply (Entails.of_eq (pts_scratch (F := F) d L cc0_scratch3 _)); iexact Hs3
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Tile

end Cert.Proof.Nf4

end
-- ==== Proof.Tasks.lean ====
/-
  The SparseCore call: what each vector subcore is handed and hands back, and the arrays as the pieces of all of them.
-/
module

public import proofs.«01_k».proof.Proof.Tile

@[expose] public section

noncomputable section

namespace Cert.Proof.Nf4

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

/-- The coordinates of subcore `i` of the call's SparseCore `c`. -/
abbrev at0 (c : Fin ((K (F := F)).nCore 0)) (i : Fin ((K (F := F)).nSub 0)) : grid0.Coords :=
  coordsV ⟨((K (F := F)).core 0 c).val, c.isLt⟩ ⟨((K (F := F)).sub 0 i).val, i.isLt⟩

/-! ## What a subcore is handed, and what it hands back -/

/-- Its eight chunks of `x`, and the same chunks of the result at contents `f`. -/
abbrev share (d : Dev nD) (L : grid0.Coords) (f : Buf (Elt F) (aLoc d)) : sProp 𝕄 :=
  bigSep Finset.univ fun k : Fin 8 => iprop(xPts d L k (m (xLoc d)) ∗ aPts d L k f)

abbrev before (d : Dev nD) (L : grid0.Coords) : sProp 𝕄 := share m d L (m (aLoc d))
abbrev after (d : Dev nD) (L : grid0.Coords) : sProp 𝕄 := share m d L (scAll (m (xLoc d)))

def P : (K (F := F)).Pay (nD := nD) (Val := Elt F) (Name := ℕ) (U := UU) where
  st := fun q d c => match q with | 0 => bigSep Finset.univ fun i : Fin ((K (F := F)).nSub 0) => before m d (at0 c i)
  dn := fun q d c => match q with | 0 => bigSep Finset.univ fun i : Fin ((K (F := F)).nSub 0) => after m d (at0 c i)
  go := fun q d c i => match q with | 0 => before m d (at0 c i)
  td := fun q d c i => match q with | 0 => after m d (at0 c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => before m d (at0 c i)))
  dn q d c := match q with
    | 0 => (inferInstance : BI.Storable (upEmb : UEmb _ 𝕄) (bigSep Finset.univ fun i : Fin ((K (F := F)).nSub 0) => after m d (at0 c i)))
  go q d c i := match q with
    | 0 => (inferInstance : BI.Storable (upEmb : UEmb _ 𝕄) (before m d (at0 c i)))
  td q d c i := match q with
    | 0 => (inferInstance : BI.Storable (upEmb : UEmb _ 𝕄) (after m d (at0 c i)))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7) ⟨⟩ c s := rfl

/-- Contents of the result that are named are some contents. -/
theorem weaken (d : Dev nD) (L : grid0.Coords) :
    before m d L ⊢ (bigSep Finset.univ fun k : Fin 8 => iprop(xPts d L k (m (xLoc d)) ∗ ∃ f, aPts d L k f) : sProp 𝕄) :=
  bigSep_mono fun k _ => by
    show (iprop(xPts d L k (m (xLoc d)) ∗ aPts d L k (m (aLoc d))) : sProp 𝕄) ⊢ iprop(xPts d L k (m (xLoc d)) ∗ ∃ f, aPts d L k f)
    iintro ⟨Hx, Ha⟩
    isplitl [Hx]; · iexact Hx
    iexists _; iexact Ha

theorem tile_task (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ before m d L ∗ scopedBufs (tV d L) ∗ scopedSems0 (tV d L) ∗ owes (tV d L) O W)
      ⊢ wp frame (wpE (defs₀ (F := F)) 𝒱₀ (tV d L) none) Set.univ
          (cc0__sc_body L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7)
          fun _ => iprop(after m d L ∗ scopedBufs (tV d L) ∗ scopedSems0 (tV d L)
            ∗ ∃ W', ⌜∀ p ∈ W', p ∈ W ∨ p.2 = none ∨ p.2 = some (0 : Fin 1)⌝ ∗ owes (tV d L) O W') := by
  exact (sep_mono_right (sep_mono_right (sep_mono_left (weaken m d L)))).trans (tile_body d L m hF O W hO)

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m d (coordsV ⟨_, hc.1⟩ ⟨_, hc.2⟩) hF O W hO

theorem hand_over (A B : sProp 𝕄) : A ⊢ |={Set.univ}=> iprop(A ∗ (B -∗ B)) := by
  iintro H; imodintro
  isplitl [H]; · iexact H
  iintro H; iexact H

theorem P_st (d : Dev nD) (c : Fin ((K (F := F)).nCore 0)) :
    (P m).st 0 d c = bigSep Finset.univ fun i : Fin ((K (F := F)).nSub 0) => (P m).go 0 d c i := rfl

theorem P_dn (d : Dev nD) (c : Fin ((K (F := F)).nCore 0)) :
    (P m).dn 0 d c = bigSep Finset.univ fun i : Fin ((K (F := F)).nSub 0) => (P m).td 0 d c i := rfl

theorem vecSplit : (K (F := F)).VecSplit' (P m) 0 := by
  intro d c
  rw [P_st, P_dn]
  exact hand_over _ _

/-! ## The arrays as the subcores' chunks -/

/-- A chunk: the SparseCore, the subcore, the chunk's number there. -/
abbrev Chunk : Type := Fin ((K (F := F)).nCore 0) × Fin ((K (F := F)).nSub 0) × Fin 8

def chunkNo (t : Chunk (F := F)) : ℕ := 16 * t.2.1.val + 8 * t.1.val + t.2.2.val

abbrev xSet (t : Chunk (F := F)) : Finset S4096x4096.Idx := (xC (at0 (F := F) t.1 t.2.1) t.2.2).view.set
abbrev aSet (t : Chunk (F := F)) : Finset S1024x4096.Idx := (aC (at0 (F := F) t.1 t.2.1) t.2.2).view.set

theorem chunkNo_inj (t t' : Chunk (F := F)) (h : chunkNo t = chunkNo t') : t = t' := by
  obtain ⟨c, i, k⟩ := t
  obtain ⟨c', i', k'⟩ := t'
  have hc : c.val < 2 := c.isLt
  have hc' : c'.val < 2 := c'.isLt
  have hk : k.val < 8 := k.isLt
  have hk' : k'.val < 8 := k'.isLt
  change 16 * i.val + 8 * c.val + k.val = 16 * i'.val + 8 * c'.val + k'.val at h
  exact Prod.ext (Fin.ext (by show c.val = c'.val; omega)) (Prod.ext (Fin.ext (by show i.val = i'.val; omega)) (Fin.ext (by show k.val = k'.val; omega)))

theorem mem_xSet (t : Chunk (F := F)) (y : S4096x4096.Idx) (h : y ∈ xSet t) : (y 0).val / 4 = chunkNo t := by
  obtain ⟨z, -, rfl⟩ := Finset.mem_map.mp h
  have h0 := (emb_xC (at0 (F := F) t.1 t.2.1) t.2.2 z).1
  have hz : (z 0).val < 4 := (z 0).isLt
  change _ = 64 * t.2.1.val + 32 * t.1.val + 4 * t.2.2.val + (z 0).val at h0
  unfold chunkNo
  rw [h0]; omega

theorem mem_aSet (t : Chunk (F := F)) (y : S1024x4096.Idx) : y ∈ aSet t ↔ (y 0).val / 4 = chunkNo t := by
  have hrow : ∀ z : S4x4096.Idx, _ = 64 * t.2.1.val + 32 * t.1.val + 4 * t.2.2.val + (z 0).val :=
    fun z => (emb_aC (at0 (F := F) t.1 t.2.1) t.2.2 z).1
  constructor
  · intro h
    obtain ⟨z, -, rfl⟩ := Finset.mem_map.mp h
    have hz : (z 0).val < 4 := (z 0).isLt
    unfold chunkNo
    rw [hrow z]; omega
  · intro h
    unfold chunkNo at h
    let z : S4x4096.Idx := fun a => match a with
      | 0 => ⟨(y 0).val % 4, Nat.mod_lt _ (by decide)⟩
      | 1 => ⟨(y 1).val, (y 1).isLt⟩
    refine Finset.mem_map.mpr ⟨z, Finset.mem_univ _, ?_⟩
    funext a
    match a with
    | 0 => exact Fin.ext ((hrow z).trans (by show _ + (y 0).val % 4 = (y 0).val; omega))
    | 1 => exact Fin.ext (emb_aC (at0 (F := F) t.1 t.2.1) t.2.2 z).2

theorem xSet_disjoint : ∀ t ∈ (Finset.univ : Finset (Chunk (F := F))), ∀ t' ∈ (Finset.univ : Finset (Chunk (F := F))), t ≠ t' → Disjoint (xSet t) (xSet t') :=
  fun t _ t' _ h => Finset.disjoint_left.mpr fun y hy hy' => h (chunkNo_inj t t' ((mem_xSet t y hy).symm.trans (mem_xSet t' y hy')))

theorem aSet_disjoint : ∀ t ∈ (Finset.univ : Finset (Chunk (F := F))), ∀ t' ∈ (Finset.univ : Finset (Chunk (F := F))), t ≠ t' → Disjoint (aSet t) (aSet t') :=
  fun t _ t' _ h => Finset.disjoint_left.mpr fun y hy hy' => h (chunkNo_inj t t' (((mem_aSet t y).mp hy).symm.trans ((mem_aSet t' y).mp hy')))

theorem aSet_cover : (Finset.univ : Finset (Chunk (F := F))).biUnion aSet = Finset.univ := by
  refine Finset.eq_univ_iff_forall.mpr fun y => Finset.mem_biUnion.mpr ?_
  have hy : (y 0).val < 1024 := (y 0).isLt
  refine ⟨(⟨(y 0).val / 32 % 2, Nat.mod_lt _ (by decide)⟩, ⟨(y 0).val / 64, ?_⟩, ⟨(y 0).val / 4 % 8, Nat.mod_lt _ (by decide)⟩), Finset.mem_univ _, ?_⟩
  · show (y 0).val / 64 < 16; omega
  · refine (mem_aSet _ y).mpr ?_
    show (y 0).val / 4 = 16 * ((y 0).val / 64) + 8 * ((y 0).val / 32 % 2) + (y 0).val / 4 % 8
    omega

/-- The rows of `x` that the SparseCores read. -/
def xUsed : Finset S4096x4096.Idx := (Finset.univ : Finset (Chunk (F := F))).biUnion xSet

/-- `x` whole, and the result whole at `f`, are the subcores' shares and the rows of `x` that they leave. -/
theorem deal (d : Dev nD) (f : Buf (Elt F) (aLoc d)) :
    iprop((bigSep Finset.univ fun c : Fin ((K (F := F)).nCore 0) => bigSep Finset.univ fun i : Fin ((K (F := F)).nSub 0) => share m d (at0 c i) f)
        ∗ xLoc d ↦[Finset.univ \ xUsed (F := F)]{fullShare} m (xLoc d))
      ⊣⊢ (iprop((xLoc d ↦{fullShare} m (xLoc d)) ∗ aLoc d ↦{fullShare} f) : sProp 𝕄) := by
  have hx : (xLoc d ↦[xUsed (F := F)]{fullShare} m (xLoc d) : sProp 𝕄)
      = bigSep Finset.univ fun t : Chunk (F := F) => xLoc d ↦[xSet t]{fullShare} m (xLoc d) :=
    pointsTo_biUnion Finset.univ (ℓ := xLoc d) xSet xSet_disjoint
  have ha : (aLoc d ↦{fullShare} f : sProp 𝕄) = bigSep Finset.univ fun t : Chunk (F := F) => aLoc d ↦[aSet t]{fullShare} f := by
    rw [← pointsTo_biUnion Finset.univ (ℓ := aLoc d) aSet aSet_disjoint, aSet_cover]
  have hs : (bigSep Finset.univ fun c : Fin ((K (F := F)).nCore 0) => bigSep Finset.univ fun i : Fin ((K (F := F)).nSub 0) => (share m d (at0 c i) f : sProp 𝕄))
      = iprop((xLoc d ↦[xUsed (F := F)]{fullShare} m (xLoc d)) ∗ aLoc d ↦{fullShare} f) := by
    rw [hx, ha, ← bigSep_sep', bigSep_univ_prod]
    exact bigSep_congr fun c _ => (bigSep_univ_prod fun b : Fin ((K (F := F)).nSub 0) × Fin 8 =>
      iprop((xLoc d ↦[xSet (c, b)]{fullShare} m (xLoc d)) ∗ aLoc d ↦[aSet (c, b)]{fullShare} f)).symm
  rw [hs]
  have hsplit := pointsTo_split_subset (nD := nD) (τ := τ) (sig := sig) (Ix := HIx 1) (Val := Elt F) (Name := ℕ) (U := UU) (Lvl := ℕ) (ℓ := xLoc d) (q := fullShare)
    (f := m (xLoc d)) (Finset.subset_univ (xUsed (F := F)))
  constructor
  · iintro ⟨⟨Hu, Ha⟩, Hr⟩
    isplitr [Ha]
    · iapply hsplit.2
      isplitl [Hu]; · iexact Hu
      iexact Hr
    iexact Ha
  · iintro ⟨Hx, Ha⟩
    ihave H := hsplit.1 $$ Hx
    icases H with ⟨Hu, Hr⟩
    isplitr [Hr]
    · isplitl [Hu]; · iexact Hu
      iexact Ha
    iexact Hr

end Cert.Proof.Nf4

end
-- ==== Proof.TcBody.lean ====
/-
  The bodies of the two TensorCore calls: one quantises a block of 128 rows, 128 columns at a time; the other copies
  a block.
-/
module

public import proofs.«01_k».proof.Proof.Common
public import Idealize.ShloMosaic.Lib.Writes
public import Idealize.ShloMosaic.Lib.Pipeline.Value

@[expose] public section

noncomputable section

namespace Cert.Proof.Nf4

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## The quantised block, index by index -/

/-- The group of 128 columns that an index lies in, and its place there. -/
def groupNo (y : S128x4096.Idx) : ℕ := (y 1).val / 128

theorem groupNo_lt (y : S128x4096.Idx) : groupNo y < 32 := by
  have h1 : (y 1).val < 4096 := (y 1).isLt
  unfold groupNo; omega

def inGroup (y : S128x4096.Idx) : S128x128.Idx :=
  fun a => match a with
    | 0 => ⟨(y 0).val, (y 0).isLt⟩
    | 1 => ⟨(y 1).val % 128, Nat.mod_lt _ (by decide)⟩

theorem group_emb (g : ℕ) (h : g < 32) (z : S128x128.Idx) :
    (((group g h).emb z) 0).val = (z 0).val ∧ (((group g h).emb z) 1).val = 128 * g + (z 1).val := by
  constructor
  · rw [Rect.emb_apply]; show 0 + 1 * (z 0).val = _; omega
  · rw [Rect.emb_apply]; show 128 * g + 1 * (z 1).val = _; omega

theorem groupNo_emb (g : ℕ) (h : g < 32) (z : S128x128.Idx) : groupNo ((group g h).emb z) = g := by
  have h1 : (z 1).val < 128 := (z 1).isLt
  unfold groupNo; rw [(group_emb g h z).2]; omega

theorem inGroup_emb (g : ℕ) (h : g < 32) (z : S128x128.Idx) : inGroup ((group g h).emb z) = z := by
  have h1 : (z 1).val < 128 := (z 1).isLt
  funext a
  match a with
  | 0 => exact Fin.ext (group_emb g h z).1
  | 1 => exact Fin.ext (by show (((group g h).emb z) 1).val % 128 = _; rw [(group_emb g h z).2]; omega)

theorem emb_inGroup (y : S128x4096.Idx) : (group (groupNo y) (groupNo_lt y)).emb (inGroup y) = y := by
  funext a
  match a with
  | 0 => exact Fin.ext (group_emb _ _ _).1
  | 1 =>
    refine Fin.ext ((group_emb _ _ _).2.trans ?_)
    show 128 * ((y 1).val / 128) + (y 1).val % 128 = (y 1).val
    omega

/-- A block of 128 rows quantised and scaled back. -/
def tcBlk (x : S128x4096.Idx → Elt F .f32) (y : S128x4096.Idx) : Elt F .f32 :=
  tcVal (fun z => x ((group (groupNo y) (groupNo_lt y)).emb z)) (inGroup y)

theorem tcBlk_emb (x : S128x4096.Idx → Elt F .f32) (g : ℕ) (h : g < 32) (z : S128x128.Idx) :
    tcBlk x ((group g h).emb z) = tcVal (fun z => x ((group g h).emb z)) z := by
  have key : ∀ (n : ℕ) (hn : n < 32), n = g →
      tcVal (fun z => x ((group n hn).emb z)) z = tcVal (fun z => x ((group g h).emb z)) z := by
    rintro n hn rfl; rfl
  unfold tcBlk
  rw [inGroup_emb]
  exact key _ _ (groupNo_emb g h z)

/-! ## The two bodies -/

section Run

variable (d : Dev nD) (arg1 arg2 : Memref sig .tc .vmem S128x4096 .f32)

theorem tcFrom_wp (x : S128x4096.Idx → Elt F .f32) : ∀ (n g : ℕ) (h : g + n ≤ 32),
    iprop((∃ f, ⌜arg1.view.read (Elt F) f = x⌝ ∗ arg1.view.loc (T d) ↦[arg1.view.set]{fullShare} f)
      ∗ ∃ f, ⌜∀ y, groupNo y < g → arg2.view.read (Elt F) f y = tcBlk x y⌝ ∗ arg2.view.loc (T d) ↦[arg2.view.set]{fullShare} f)
    ⊢ (wp frame (wpE (defs₀ (F := F)) 𝒱₀ (T d) none) Set.univ (tcFrom arg1 arg2 n g h) fun _ =>
        iprop((∃ f, ⌜arg1.view.read (Elt F) f = x⌝ ∗ arg1.view.loc (T d) ↦[arg1.view.set]{fullShare} f)
          ∗ ∃ f, ⌜∀ y, groupNo y < g + n → arg2.view.read (Elt F) f y = tcBlk x y⌝ ∗ arg2.view.loc (T d) ↦[arg2.view.set]{fullShare} f) : sProp 𝕄)
  | 0, g, h => by
    unfold tcFrom
    iintro H
    sl_step
    iexact H
  | n + 1, g, h => by
    unfold tcFrom
    simp only [Prog.lift, Prog.bind_op, Prog.bind_ret, Prog.pure_eq_ret]
    iintro ⟨⟨%f, %hf, Hs⟩, %f₂, %hg, Hd⟩
    sl_step
    sl_step
    sl_step
    rw [show g + (n + 1) = (g + 1) + n by omega]
    iapply tcFrom_wp x n (g + 1) _
    isplitl [Hs]
    · iexists f; isplitr
      swap; · iexact Hs
      ipureintro; exact hf
    iexists _
    isplitr
    swap; · iexact Hd
    ipureintro
    intro y hy
    subst hf
    have hlt : g < 32 := by omega
    show arg2.view.read (Elt F) (arg2.view.writes (Elt F) f₂
      [⟨group g hlt, tcVal fun z => arg1.view.read (Elt F) f ((group g hlt).emb z)⟩]) y = _
    by_cases e : groupNo y = g
    · have hm : (group g hlt).emb (inGroup y) = y := by
        subst e; exact emb_inGroup y
      refine (View.read_writes_cons_hit _ _ _ _ [] (inGroup y) y hm).trans ?_
      rw [← hm, tcBlk_emb, inGroup_emb]
    · refine (View.read_writes_apply_of_forall_not_mem arg2.view f₂ y _ fun p hp hm => ?_).trans (hg y (by omega))
      rw [List.mem_singleton] at hp
      subst hp
      obtain ⟨i, rfl⟩ := (group g hlt).exists_idx_of_mem hm
      exact e (groupNo_emb g hlt i)

/-- The quantising body: from a buffer that reads `x`, the other buffer reads `tcBlk x`. -/
theorem tc_body (i : grid1.Coords) (h₁ : arg1.IsWhole) (h₂ : arg2.IsWhole) (f₁ : Buf (Elt F) (arg1.view.loc (T d))) (f₂ : Buf (Elt F) (arg2.view.loc (T d))) :
    iprop((arg1.view.loc (T d) ↦[arg1.view.set]{fullShare} f₁) ∗ arg2.view.loc (T d) ↦[arg2.view.set]{fullShare} f₂)
    ⊢ (wp frame (wpE (defs₀ (F := F)) 𝒱₀ (T d) none) Set.univ (cc1__tc_kernel i arg1 h₁ arg2 h₂) fun _ =>
        iprop((∃ f, ⌜arg1.view.read (Elt F) f = arg1.view.read (Elt F) f₁⌝ ∗ arg1.view.loc (T d) ↦[arg1.view.set]{fullShare} f)
          ∗ ∃ f, ⌜arg2.view.read (Elt F) f = tcBlk (arg1.view.read (Elt F) f₁)⌝ ∗ arg2.view.loc (T d) ↦[arg2.view.set]{fullShare} f) : sProp 𝕄) := by
  rw [tc_kernel_eq]
  iintro ⟨H₁, H₂⟩
  iapply (wp_wand_r (M := 𝕄) frame (wpE (defs₀ (F := F)) 𝒱₀ (T d) none) Set.univ)
  isplitl [H₁ H₂]
  · iapply tcFrom_wp d arg1 arg2 (arg1.view.read (Elt F) f₁) 32 0 _
    isplitl [H₁]
    · iexists f₁; isplitr
      swap; · iexact H₁
      ipureintro; rfl
    iexists f₂; isplitr
    swap; · iexact H₂
    ipureintro; exact fun _ h => absurd h (Nat.not_lt_zero _)
  · iintro %u ⟨H₁, %f, %hf, H₂⟩
    isplitl [H₁]; · iexact H₁
    iexists f; isplitr
    swap; · iexact H₂
    ipureintro
    exact funext fun y => hf y (by have := groupNo_lt y; omega)

/-- The copying body: the first operand's block goes whole to the last operand's. -/
theorem copy_body (i : grid2.Coords) (mid : Memref sig .tc .hbm S4096x4096 .f32) (h₁ : arg1.IsWhole) (h : mid.IsWhole) (h₂ : arg2.IsWhole)
    (f₁ : Buf (Elt F) (arg1.view.loc (T d))) (f₂ : Buf (Elt F) (arg2.view.loc (T d))) :
    iprop((arg1.view.loc (T d) ↦[arg1.view.set]{fullShare} f₁) ∗ arg2.view.loc (T d) ↦[arg2.view.set]{fullShare} f₂)
    ⊢ (wp frame (wpE (defs₀ (F := F)) 𝒱₀ (T d) none) Set.univ (cc2__copy_kernel i arg1 h₁ mid h arg2 h₂) fun _ =>
        iprop((∃ f, ⌜arg1.view.read (Elt F) f = arg1.view.read (Elt F) f₁⌝ ∗ arg1.view.loc (T d) ↦[arg1.view.set]{fullShare} f)
          ∗ ∃ f, ⌜arg2.view.read (Elt F) f = arg1.view.read (Elt F) f₁⌝ ∗ arg2.view.loc (T d) ↦[arg2.view.set]{fullShare} f) : sProp 𝕄) := by
  unfold cc2__copy_kernel
  simp only [Prog.lift, Prog.bind_op, Prog.bind_ret, Prog.pure_eq_ret]
  iintro ⟨H₁, H₂⟩
  sl_exec
  sl_step
  isplitl [H₁]
  · iexists f₁; isplitr
    swap; · iexact H₁
    ipureintro; rfl
  iexists _; isplitr
  swap; · iexact H₂
  ipureintro
  funext y
  let W : Rect S128x4096 := Rect.unit (s := S128x4096) ![0, 0] S128x4096.size inb_S128x4096_S128x4096_0_0
  have hy : W.emb y = y := by
    funext a
    match a with
    | 0 => exact Fin.ext (by rw [Rect.emb_apply]; show 0 + 1 * (y 0).val = _; omega)
    | 1 => exact Fin.ext (by rw [Rect.emb_apply]; show 0 + 1 * (y 1).val = _; omega)
  refine (View.read_writes_cons_hit _ _ W _ [] y y hy).trans ?_
  refine (congrFun (shapeCast_self (α := Elt F .f32) _ shapeCasts_S128x4096_S128x4096) y).trans ?_
  show arg1.view.read (Elt F) f₁ (W.emb y) = _
  rw [hy]

end Run

end Cert.Proof.Nf4

end
-- ==== Proof.Regions.lean ====
/-
  The two TensorCore calls as regions of the main program: what each leaves in its result's array.
-/
module

public import proofs.«01_k».proof.Proof.TcBody
public import Idealize.ShloMosaic.Lib.Pipeline.ValueKit
public import Idealize.ShloMosaic.Lib.Pipeline.RegionsLoop

@[expose] public section

noncomputable section

namespace Cert.Proof.Nf4

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- Every pair the core has waited on so far lies at a level up to 8, the end of the SparseCore call. -/
def waited (c : Dev nD) : Set (SemLoc sig × HIx 1) := {p | (K (F := F)).lev (T c, p.1) p.2 ≤ 8}

variable (x : (c : Dev nD) → Buf (Elt F) (xLoc c)) (a : (c : Dev nD) → Buf (Elt F) (aLoc c))
  (b : (c : Dev nD) → Buf (Elt F) (bLoc c)) (o : (c : Dev nD) → Buf (Elt F) (oLoc c))

/-- The quantising call's windows: `x` read block by block, each result block `tcBlk` of the same block of `x`. -/
def dat1 (c : Dev nD) : Dat τ (Elt F) (HIx 1) ℕ UU ℕ cfg1 c where
  A w := match w with
    | ⟨0, _⟩ => x c
    | ⟨1, _⟩ => b c
  after w t := match w with
    | ⟨0, _⟩ => ((cfg1.win 0).blk t).view.read (Elt F) (x c)
    | ⟨1, _⟩ => tcBlk (((cfg1.win 0).blk t).view.read (Elt F) (x c))
  Φ _ := Pipeline.scopedRest spec1 c
  q _ := fullShare
  owed _ := 0
  recorded _ := waited (F := F) c

/-- The copying call's windows: the first operand block by block, each result block the same. -/
def dat2 (c : Dev nD) : Dat τ (Elt F) (HIx 1) ℕ UU ℕ cfg2 c where
  A w := match w with
    | ⟨0, _⟩ => a c
    | ⟨1, _⟩ => o c
  after w t := match w with
    | ⟨0, _⟩ => ((cfg2.win 0).blk t).view.read (Elt F) (a c)
    | ⟨1, _⟩ => ((cfg2.win 0).blk t).view.read (Elt F) (a c)
  Φ _ := Pipeline.scopedRest spec2 c
  q _ := fullShare
  owed _ := 0
  recorded _ := waited (F := F) c

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat1 x b c
  | ⟨1, _⟩ => fun c => dat2 a o c

theorem before1 (c : Dev nD) (t : Fin cfg1.N) (e) : (dat1 x b c).before 0 t e = ((cfg1.win 0).blk t).view.read (Elt F) (x c) := by
  rw [Dat.before_fetched _ 0 t (fetch1_0 t)]; rfl

theorem before2 (c : Dev nD) (t : Fin cfg2.N) (e) : (dat2 a o c).before 0 t e = ((cfg2.win 0).blk t).view.read (Elt F) (a c) := by
  rw [Dat.before_fetched _ 0 t (fetch2_0 t)]; rfl

theorem body_obligation1 (c : Dev nD) : BodyObligation (dat1 x b c) (defs₀ (F := F)) 𝒱₀ none Set.univ := fun t => by
  rw [bigSep_W1, bigSep_W1]
  simp only [owns]
  rw [show (dat1 x b c).Φ t.castSucc = (dat1 x b c).Φ t.succ from rfl,
    show (dat1 x b c).owesAt none t.castSucc = (dat1 x b c).owesAt none t.succ from rfl]
  iintro ⟨HΦ, Howes, ⟨%d0, %f0, %hf0, H0⟩, ⟨%d1, %f1, -, H1⟩⟩
  rw [before1] at hf0
  iapply (wp_wand_r (M := 𝕄) frame (wpE (defs₀ (F := F)) 𝒱₀ (T c) none) Set.univ (p := bodyAt1 t))
  isplitl [H0 H1]
  · iapply tc_body c (st1_0 t) (st1_1 t) (grid1.coords t) _ _ f0 f1
    isplitl [H0]; · iexact H0
    iexact H1
  iintro %u ⟨⟨%g0, %hg0, H0⟩, %g1, %hg1, H1⟩
  isplitl [HΦ]; · iexact HΦ
  isplitl [Howes]; · iexact Howes
  isplitl [H0]
  · iexists g0; isplitr
    swap; · iexact H0
    ipureintro; exact hg0.trans hf0
  iexists g1; isplitr
  swap; · iexact H1
  ipureintro; exact hg1.trans (congrArg tcBlk hf0)

theorem body_obligation2 (c : Dev nD) : BodyObligation (dat2 a o c) (defs₀ (F := F)) 𝒱₀ none Set.univ := fun t => by
  rw [bigSep_W2, bigSep_W2]
  simp only [owns]
  rw [show (dat2 a o c).Φ t.castSucc = (dat2 a o c).Φ t.succ from rfl,
    show (dat2 a o c).owesAt none t.castSucc = (dat2 a o c).owesAt none t.succ from rfl]
  iintro ⟨HΦ, Howes, ⟨%d0, %f0, %hf0, H0⟩, ⟨%d1, %f1, -, H1⟩⟩
  rw [before2] at hf0
  iapply (wp_wand_r (M := 𝕄) frame (wpE (defs₀ (F := F)) 𝒱₀ (T c) none) Set.univ (p := bodyAt2 t))
  isplitl [H0 H1]
  · iapply copy_body c (st2_0 t) (st2_1 t) (grid2.coords t) (Memref.whole main_v1) _ _ _ f0 f1
    isplitl [H0]; · iexact H0
    iexact H1
  iintro %u ⟨⟨%g0, %hg0, H0⟩, %g1, %hg1, H1⟩
  isplitl [HΦ]; · iexact HΦ
  isplitl [Howes]; · iexact Howes
  isplitl [H0]
  · iexists g0; isplitr
    swap; · iexact H0
    ipureintro; exact hg0.trans hf0
  iexists g1; isplitr
  swap; · iexact H1
  ipureintro; exact hg1.trans hf0

/-! ## The regions over the core's state -/

/-- The core owes nothing, and has waited on nothing above the SparseCore call's end. -/
def idleTc (c : Dev nD) : sProp 𝕄 :=
  iprop(∃ W, ⌜(K (F := F)).WBelow (T c) W 8⌝ ∗ owes (T c) (0 : CellTallies nD τ sig (HIx 1)) W)

theorem owesAt_of_idle {cfg : Pipeline.Cfg sig Λ₀} (c : Dev nD) (dat : Dat τ (Elt F) (HIx 1) ℕ UU ℕ cfg c) (t) (h : dat.owed t = 0)
    (hr : dat.recorded t = waited (F := F) c) : idleTc c ⊢ dat.owesAt none t := by
  unfold idleTc Dat.owesAt Pipeline.owesWithin
  rw [h]
  iintro ⟨%W, %hW, H⟩
  iexists W; isplitr
  swap; · iexact H
  ipureintro
  intro p hp
  exact Or.inl (hr ▸ hW p hp)

theorem idle_of_owesAt {cfg : Pipeline.Cfg sig Λ₀} (c : Dev nD) (dat : Dat τ (Elt F) (HIx 1) ℕ UU ℕ cfg c) (t) (h : dat.owed t = 0)
    (hr : dat.recorded t = waited (F := F) c) : dat.owesAt none t ⊢ idleTc c := by
  unfold idleTc Dat.owesAt Pipeline.owesWithin
  rw [h]
  iintro ⟨%W, %hW, H⟩
  iexists W; isplitr
  swap; · iexact H
  ipureintro
  intro p hp
  rcases hW hp with h | ⟨w, s, rfl⟩
  · rw [hr] at h; exact h
  · exact Nat.zero_le 8

def after1 (c : Dev nD) : Buf (Elt F) (bLoc c) := (dat1 x b c).arrAt 1 cfg1.N
def after2 (c : Dev nD) : Buf (Elt F) (oLoc c) := (dat2 a o c).arrAt 1 cfg2.N

include a o in
/-- The windows' arrays of the quantising call, one by one. -/
theorem arrays1 (c : Dev nD) (f : (w : Fin 2) → Buf (Elt F) ((cfg1.win w).arr.view.loc (c : Thread nD τ))) :
    ((dat1 x b c).arrays f : sProp 𝕄) = iprop((xLoc c ↦{fullShare} f 0) ∗ bLoc c ↦{fullShare} f 1) :=
  (Pipeline.arrays_eq (Pipeline.pin (pcfgs (F := F)) adm) (pdats x a b o) 0 c launch1.arr_whole ((dat1 x b c).share_full fun _ => rfl) f).trans
    (bigSep_W1 _)

include x b in
/-- The same of the copying call. -/
theorem arrays2 (c : Dev nD) (f : (w : Fin 2) → Buf (Elt F) ((cfg2.win w).arr.view.loc (c : Thread nD τ))) :
    ((dat2 a o c).arrays f : sProp 𝕄) = iprop((aLoc c ↦{fullShare} f 0) ∗ oLoc c ↦{fullShare} f 1) :=
  (Pipeline.arrays_eq (Pipeline.pin (pcfgs (F := F)) adm) (pdats x a b o) 1 c launch2.arr_whole ((dat2 a o c).share_full fun _ => rfl) f).trans
    (bigSep_W2 _)

set_option backward.isDefEq.respectTransparency.types false in
/-- The quantising call. -/
def reg1 : Pipeline.RegionSeg (pcfgs (F := F)) adm (pdats x a b o) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 x b c).loose
  hwaits := Pipeline.hwaits_of_owed_zero _ _ _ _ (K (F := F)).L (K (F := F)).lev 0 fun _ _ => rfl
  pre c := iprop((xLoc c ↦{fullShare} x c) ∗ (bLoc c ↦{fullShare} b c) ∗ idleTc c)
  post c := iprop((xLoc c ↦{fullShare} x c) ∗ (bLoc c ↦{fullShare} after1 x b c) ∗ idleTc c)
  X _ := BI.emp
  Y _ := BI.emp
  Z _ := BI.emp
  hentry c := by
    rw [Pipeline.ownSems0_none, show pdats x a b o 0 c = dat1 x b c from rfl, arrays1 x a b o]
    iintro ⟨⟨Hx, Hb, HO⟩, -, -⟩
    imodintro
    isplitl [Hx Hb]
    · isplitl [Hx]; · iexact Hx
      iexact Hb
    isplitr; · unfold Pipeline.prefHeld; rw [show (Finset.univ : Finset (Fin 0)) = ∅ from rfl, BI.bigSep_empty]; iempintro
    isplitl [HO]
    · iapply owesAt_of_idle c (dat1 x b c) 0 rfl rfl; iexact HO
    isplitr <;> iempintro
  hin c := by
    rw [show (pdats x a b o 0 c).Φ 0 = Pipeline.scopedRest spec1 c from rfl]
    iintro ⟨-, -, Hr⟩; iexact Hr
  hout c := by
    rw [Pipeline.ownSems0_none, show (pdats x a b o 0 c).Φ (Fin.last _) = Pipeline.scopedRest spec1 c from rfl]
    iintro Hr
    isplitr; · iempintro
    isplitr; · iempintro
    iexact Hr
  hexit c := by
    rw [show pdats x a b o 0 c = dat1 x b c from rfl, arrays1 x a b o]
    rw [show (dat1 x b c).arrAt 0 (Pipeline.pin (pcfgs (F := F)) adm 0).N = x c from (dat1 x b c).arrAt_in 0 rfl _]
    iintro ⟨⟨Hx, Hb⟩, HO, -, -⟩
    imodintro
    isplitl [Hx]; · iexact Hx
    isplitl [Hb]; · iexact Hb
    iapply idle_of_owesAt c (dat1 x b c) (Fin.last _) rfl rfl; iexact HO

set_option backward.isDefEq.respectTransparency.types false in
/-- The copying call. -/
def reg2 : Pipeline.RegionSeg (pcfgs (F := F)) adm (pdats x a b o) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 a o c).loose
  hwaits := Pipeline.hwaits_of_owed_zero _ _ _ _ (K (F := F)).L (K (F := F)).lev 1 fun _ _ => rfl
  pre c := iprop((aLoc c ↦{fullShare} a c) ∗ (oLoc c ↦{fullShare} o c) ∗ idleTc c)
  post c := iprop((aLoc c ↦{fullShare} a c) ∗ (oLoc c ↦{fullShare} after2 a o c) ∗ idleTc c)
  X _ := BI.emp
  Y _ := BI.emp
  Z _ := BI.emp
  hentry c := by
    rw [Pipeline.ownSems0_none, show pdats x a b o 1 c = dat2 a o c from rfl, arrays2 x a b o]
    iintro ⟨⟨Hx, Hb, HO⟩, -, -⟩
    imodintro
    isplitl [Hx Hb]
    · isplitl [Hx]; · iexact Hx
      iexact Hb
    isplitr; · unfold Pipeline.prefHeld; rw [show (Finset.univ : Finset (Fin 0)) = ∅ from rfl, BI.bigSep_empty]; iempintro
    isplitl [HO]
    · iapply owesAt_of_idle c (dat2 a o c) 0 rfl rfl; iexact HO
    isplitr <;> iempintro
  hin c := by
    rw [show (pdats x a b o 1 c).Φ 0 = Pipeline.scopedRest spec2 c from rfl]
    iintro ⟨-, -, Hr⟩; iexact Hr
  hout c := by
    rw [Pipeline.ownSems0_none, show (pdats x a b o 1 c).Φ (Fin.last _) = Pipeline.scopedRest spec2 c from rfl]
    iintro Hr
    isplitr; · iempintro
    isplitr; · iempintro
    iexact Hr
  hexit c := by
    rw [show pdats x a b o 1 c = dat2 a o c from rfl, arrays2 x a b o]
    rw [show (dat2 a o c).arrAt 0 (Pipeline.pin (pcfgs (F := F)) adm 1).N = a c from (dat2 a o c).arrAt_in 0 rfl _]
    iintro ⟨⟨Hx, Hb⟩, HO, -, -⟩
    imodintro
    isplitl [Hx]; · iexact Hx
    isplitl [Hb]; · iexact Hb
    iapply idle_of_owesAt c (dat2 a o c) (Fin.last _) rfl rfl; iexact HO

end Cert.Proof.Nf4

end
-- ==== Proof.Final.lean ====
/-
  What the two TensorCore calls leave in their results' arrays, as one function of the index each.
-/
module

public import proofs.«01_k».proof.Proof.Regions

@[expose] public section

noncomputable section

namespace Cert.Proof.Nf4

open Cert.KernelIdeal Cert.KernelIdeal.Gen
open Idealize.ShloMosaic Idealize.ShloMosaic.TcCoe
open Idealize.ShloMosaic.SparseCore (S V T)
open Idealize.ShloMosaic.Pipeline (Dat)

variable {F : FTy → Type} [FloatOps F] [Named F]

/-- Row `i 0` mod 128 of the block of 128 rows. -/
def inBlock (i : S4096x4096.Idx) : S128x4096.Idx :=
  fun a => match a with
    | 0 => ⟨(i 0).val % 128, Nat.mod_lt _ (by decide)⟩
    | 1 => ⟨(i 1).val, (i 1).isLt⟩

/-- Row `z 0` of the block of 128 rows that `i` lies in. -/
def ofBlock (i : S4096x4096.Idx) (z : S128x4096.Idx) : S4096x4096.Idx :=
  fun a => match a with
    | 0 => ⟨128 * ((i 0).val / 128) + (z 0).val, by
      have h0 : (i 0).val < 4096 := (i 0).isLt
      have h1 : (z 0).val < 128 := (z 0).isLt
      show _ < 4096; omega⟩
    | 1 => ⟨(z 1).val, (z 1).isLt⟩

/-- The whole array quantised and scaled back, block of rows by block of rows. -/
def tcAll (x : S4096x4096.Idx → Elt F .f32) (i : S4096x4096.Idx) : Elt F .f32 :=
  tcBlk (fun z => x (ofBlock i z)) (inBlock i)

/-- An index of the first 1024 rows. -/
def inFirst (i : S4096x4096.Idx) : S1024x4096.Idx :=
  fun a => match a with
    | 0 => ⟨(i 0).val % 1024, Nat.mod_lt _ (by decide)⟩
    | 1 => ⟨(i 1).val, (i 1).isLt⟩

variable (x : (c : Dev nD) → Buf (Elt F) (xLoc c)) (a : (c : Dev nD) → Buf (Elt F) (aLoc c))
  (b : (c : Dev nD) → Buf (Elt F) (bLoc c)) (o : (c : Dev nD) → Buf (Elt F) (oLoc c))

theorem index1_0 : ∀ t : Fin grid1.N, win1_0.index t = ![t.val + 8, 0] := by decide +kernel
theorem index1_1 : ∀ t : Fin grid1.N, win1_1.index t = ![t.val + 8, 0] := by decide +kernel
theorem index2_0 : ∀ t : Fin grid2.N, win2_0.index t = ![t.val, 0] := by decide +kernel
theorem index2_1 : ∀ t : Fin grid2.N, win2_1.index t = ![t.val, 0] := by decide +kernel

/-- Where a block's index lies in the array. -/
theorem emb1 (t : Fin grid1.N) (y : S128x4096.Idx) :
    ((((win1_1.blk t).view.emb y : S4096x4096.Idx) 0).val = 128 * (t.val + 8) + (y 0).val
      ∧ (((win1_1.blk t).view.emb y : S4096x4096.Idx) 1).val = (y 1).val)
      ∧ ((win1_0.blk t).view.emb y : S4096x4096.Idx) = (win1_1.blk t).view.emb y := by
  have e₁ := index1_1 t
  have e₀ := index1_0 t
  refine ⟨⟨?_, ?_⟩, ?_⟩
  · blk_simp [e₁]; omega
  · blk_simp [e₁]
  · blk_ext [e₀, e₁]

theorem emb2 (t : Fin grid2.N) (y : S128x4096.Idx) :
    ((((win2_1.blk t).view.emb y : S4096x4096.Idx) 0).val = 128 * t.val + (y 0).val
      ∧ (((win2_1.blk t).view.emb y : S4096x4096.Idx) 1).val = (y 1).val)
      ∧ (((win2_0.blk t).view.emb y : S1024x4096.Idx) 0).val = 128 * t.val + (y 0).val
      ∧ (((win2_0.blk t).view.emb y : S1024x4096.Idx) 1).val = (y 1).val := by
  have e₁ := index2_1 t
  have e₀ := index2_0 t
  refine ⟨⟨?_, ?_⟩, ?_, ?_⟩
  · blk_simp [e₁]; omega
  · blk_simp [e₁]
  · blk_simp [e₀]; omega
  · blk_simp [e₀]

theorem after1_eq (c : Dev nD) : after1 x b c = fun i : S4096x4096.Idx => if 8 ≤ (i 0).val / 128 then tcAll (x c) i else b c i := by
  unfold after1
  refine (dat1 x b c).arrAt_eq_of_coversWhere 1 (tcAll (x c)) (fun β => 8 ≤ β (0 : Fin 2)) (by decide +kernel) (fun t hf y => ?_) (fun j => Iff.rfl)
  blk_simp
  obtain ⟨⟨h0, h1⟩, -⟩ := emb1 t y
  have hy0 : ((y : S128x4096.Idx) 0).val < 128 := ((y : S128x4096.Idx) 0).isLt
  show tcBlk (fun z => x c ((win1_0.blk t).view.emb z)) y = tcBlk (fun z => x c (ofBlock ((win1_1.blk t).view.emb y) z)) (inBlock ((win1_1.blk t).view.emb y))
  have hz : inBlock ((win1_1.blk t).view.emb y) = (y : S128x4096.Idx) := by
    funext a
    match a with
    | 0 => exact Fin.ext (by show (((win1_1.blk t).view.emb y : S4096x4096.Idx) 0).val % 128 = _; rw [h0]; omega)
    | 1 => exact Fin.ext h1
  have hx : ∀ z : S128x4096.Idx, ((win1_0.blk t).view.emb z : S4096x4096.Idx) = ofBlock ((win1_1.blk t).view.emb y) z := fun z => by
    obtain ⟨⟨k0, k1⟩, k⟩ := emb1 t z
    rw [k]
    funext a
    match a with
    | 0 => exact Fin.ext (by show _ = 128 * ((((win1_1.blk t).view.emb y : S4096x4096.Idx) 0).val / 128) + _; rw [h0, k0]; omega)
    | 1 => exact Fin.ext k1
  rw [hz]
  exact congrArg (fun f => tcBlk f y) (funext fun z => congrArg (x c) (hx z))

theorem after2_eq (c : Dev nD) : after2 a o c = fun i : S4096x4096.Idx => if (i 0).val / 128 < 8 then a c (inFirst i) else o c i := by
  unfold after2
  refine (dat2 a o c).arrAt_eq_of_coversWhere 1 (fun i => a c (inFirst i)) (fun β => β (0 : Fin 2) < 8) (by decide +kernel) (fun t hf y => ?_) (fun j => Iff.rfl)
  blk_simp
  obtain ⟨⟨h0, h1⟩, k0, k1⟩ := emb2 t y
  have hy0 : ((y : S128x4096.Idx) 0).val < 128 := ((y : S128x4096.Idx) 0).isLt
  have ht : t.val < 8 := N_2 ▸ t.isLt
  show a c ((win2_0.blk t).view.emb y) = _
  refine congrArg (a c) (funext fun ax => ?_)
  match ax with
  | 0 => exact Fin.ext (by show _ = (((win2_1.blk t).view.emb y : S4096x4096.Idx) 0).val % 1024; rw [h0, k0]; omega)
  | 1 => exact Fin.ext (k1.trans h1.symm)

end Cert.Proof.Nf4

end
-- ==== Proof.Launch.lean ====
/-
  The launch: @main on the TensorCore over the SparseCore call and the two pipelined calls, and the program's run.
-/
module

public import proofs.«01_k».proof.Proof.Tasks
public import proofs.«01_k».proof.Proof.Final
public import Idealize.ShloMosaic.Lib.SparseCore.Quiescent

@[expose] public section

noncomputable section

namespace Cert.Proof.Nf4

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element: the handshakes' rounds and the pipelines' -/

abbrev pins : (p : Fin 2) → Pipeline.Cfg sig Λ₀ := Pipeline.pin (pcfgs (F := F)) adm

def u₀ : UU :=
  (initOf (K (F := F)).hsCells (K (F := F)).hsToks,
    (initOf (Pipeline.cells (pins (F := F)) cellOf_inj) (Pipeline.launchToks (pins (F := F)) cellOf_inj), 1))

/-- The pipelines' rounds, as one device's TensorCore is dealt them. -/
def G (d : Dev nD) : sProp 𝕄 :=
  iprop((bigSep Finset.univ fun p : Fin 2 => Pipeline.cellsGhost (pins (F := F)) EP p d)
    ∗ bigSep Finset.univ fun p : Fin 2 => Pipeline.toksInit (pins (F := F)) EP p d)

theorem ownU_rounds (p : UH) (q : UP) : (ownU ((p, (q, 1)) : UU) : sProp 𝕄) ⊢ iprop(BI.own (EH p) ∗ BI.own (EP q)) :=
  BI.own_op_elim ((uEmb (nD := nD) (sig := sig) (Ix := HIx 1) (Val := Elt F) (Name := ℕ) (U := UU) (Lvl := ℕ)).toEmb.op_of_mem
    (Prod.mk_mem_op (URA.mem_op_one p) (URA.mem_one_op (q, 1))))

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_rounds _ _) $$ Hu
  icases H with ⟨HH, HP⟩
  imod (Pipeline.fund_ghost (pins (F := F)) EP cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The operations of @main -/

theorem region_wp [∀ e, Nonempty (Elt F e)] {pd} {p : Fin 2} (R : Pipeline.RegionSeg (pcfgs (F := F)) adm pd none defs₀ 𝒱₀ (K (F := F)).L (K (F := F)).lev p) (d : Dev nD) :
    iprop(boundary (T d) ∗ R.pre d ∗ levAts (K (F := F)).L (K (F := F)).lev
        ∗ Pipeline.cellsGhost (pins (F := F)) EP p d ∗ Pipeline.toksInit (pins (F := F)) EP p d)
      ⊢ (wp frame (wpE ((K (F := F)).defs (D (F := F))) 𝒱 (T d) none) Set.univ
          (Prog.lift (.customCall (SparseCore.inner (Pipeline.entry p)) ()))
          fun _ => iprop(boundary (T d) ∗ R.post d) : sProp 𝕄) := by
  change _ ⊢ wp _ _ _ (SparseCore.liftProg (Prog.lift (.customCall (Pipeline.entry p) ()))) _
  refine BI.Entails.trans ?_ ((K (F := F)).wp_liftProg (D (F := F)) 𝒱 (T d) Set.univ none _ _)
  refine BI.Entails.trans ?_ (Pipeline.RegionSeg.wp (pcfgs (F := F)) adm pd none cellOf_inj EP defs₀ 𝒱₀ (K (F := F)).L (K (F := F)).lev R d none (fun _ h => nomatch h) .ret _)
  have hR : iprop(boundary (T d) ∗ R.pre d ∗ levAts (K (F := F)).L (K (F := F)).lev
        ∗ Pipeline.cellsGhost (pins (F := F)) EP p d ∗ Pipeline.toksInit (pins (F := F)) EP p d)
      ⊢ (iprop((iprop(boundary (T d) ∗ R.post d) -∗ wp frame (wpE (D (F := F)) 𝒱 (T d) none) Set.univ (.ret ⟨⟩) fun _ : PUnit => iprop(boundary (T d) ∗ R.post d))
          ∗ boundary (T d) ∗ R.pre d ∗ levAts (K (F := F)).L (K (F := F)).lev
        ∗ Pipeline.cellsGhost (pins (F := F)) EP p d ∗ Pipeline.toksInit (pins (F := F)) EP p d) : sProp 𝕄) := by
    iintro H
    isplitr
    · iintro H; rw [wp_ret]; imodintro; iexact H
    iexact H
  exact hR

/-- The quantising call, as an operation of @main. -/
theorem quantise_wp [∀ e, Nonempty (Elt F e)] (x : (c : Dev nD) → Buf (Elt F) (xLoc c)) (b : (c : Dev nD) → Buf (Elt F) (bLoc c)) (d : Dev nD)
    (hx : x d = m (xLoc d)) (hb : b d = m (bLoc d)) :
    iprop(boundary (T d) ∗ (xLoc d ↦{fullShare} m (xLoc d)) ∗ (bLoc d ↦{fullShare} m (bLoc d)) ∗ idleTc d ∗ levAts (K (F := F)).L (K (F := F)).lev
        ∗ Pipeline.cellsGhost (pins (F := F)) EP 0 d ∗ Pipeline.toksInit (pins (F := F)) EP 0 d)
      ⊢ (wp frame (wpE ((K (F := F)).defs (D (F := F))) 𝒱 (T d) none) Set.univ
          (Prog.lift (.customCall (SparseCore.inner (Pipeline.entry (0 : Fin 2))) ()))
          fun _ => iprop(boundary (T d) ∗ (xLoc d ↦{fullShare} m (xLoc d)) ∗ (bLoc d ↦{fullShare} after1 x b d) ∗ idleTc d) : sProp 𝕄) := by
  rw [← hx, ← hb]
  refine BI.Entails.trans ?_ (region_wp (reg1 x (fun c => m (aLoc c)) b (fun c => m (oLoc c))) d)
  have h : iprop(boundary (T d) ∗ (xLoc d ↦{fullShare} x d) ∗ (bLoc d ↦{fullShare} b d) ∗ idleTc d ∗ levAts (K (F := F)).L (K (F := F)).lev
        ∗ Pipeline.cellsGhost (pins (F := F)) EP 0 d ∗ Pipeline.toksInit (pins (F := F)) EP 0 d)
      ⊢ (iprop(boundary (T d) ∗ ((xLoc d ↦{fullShare} x d) ∗ (bLoc d ↦{fullShare} b d) ∗ idleTc d) ∗ levAts (K (F := F)).L (K (F := F)).lev
        ∗ Pipeline.cellsGhost (pins (F := F)) EP 0 d ∗ Pipeline.toksInit (pins (F := F)) EP 0 d) : sProp 𝕄) := by
    iintro ⟨Hb, Hx, Hv, Hi, H⟩
    isplitl [Hb]; · iexact Hb
    isplitr [H]
    · isplitl [Hx]; · iexact Hx
      isplitl [Hv]; · iexact Hv
      iexact Hi
    iexact H
  exact h

include m in
/-- The copying call, as an operation of @main. -/
theorem merge_wp [∀ e, Nonempty (Elt F e)] (a : (c : Dev nD) → Buf (Elt F) (aLoc c)) (o : (c : Dev nD) → Buf (Elt F) (oLoc c)) (d : Dev nD) :
    iprop(boundary (T d) ∗ (aLoc d ↦{fullShare} a d) ∗ (oLoc d ↦{fullShare} o d) ∗ idleTc d ∗ levAts (K (F := F)).L (K (F := F)).lev
        ∗ Pipeline.cellsGhost (pins (F := F)) EP 1 d ∗ Pipeline.toksInit (pins (F := F)) EP 1 d)
      ⊢ (wp frame (wpE ((K (F := F)).defs (D (F := F))) 𝒱 (T d) none) Set.univ
          (Prog.lift (.customCall (SparseCore.inner (Pipeline.entry (1 : Fin 2))) ()))
          fun _ => iprop(boundary (T d) ∗ (aLoc d ↦{fullShare} a d) ∗ (oLoc d ↦{fullShare} after2 a o d) ∗ idleTc d) : sProp 𝕄) := by
  refine BI.Entails.trans ?_ (region_wp (reg2 (fun c => m (xLoc c)) a (fun c => m (bLoc c)) o) d)
  have h : iprop(boundary (T d) ∗ (aLoc d ↦{fullShare} a d) ∗ (oLoc d ↦{fullShare} o d) ∗ idleTc d ∗ levAts (K (F := F)).L (K (F := F)).lev
        ∗ Pipeline.cellsGhost (pins (F := F)) EP 1 d ∗ Pipeline.toksInit (pins (F := F)) EP 1 d)
      ⊢ (iprop(boundary (T d) ∗ ((aLoc d ↦{fullShare} a d) ∗ (oLoc d ↦{fullShare} o d) ∗ idleTc d) ∗ levAts (K (F := F)).L (K (F := F)).lev
        ∗ Pipeline.cellsGhost (pins (F := F)) EP 1 d ∗ Pipeline.toksInit (pins (F := F)) EP 1 d) : sProp 𝕄) := by
    iintro ⟨Hb, Hx, Hv, Hi, H⟩
    isplitl [Hb]; · iexact Hb
    isplitr [H]
    · isplitl [Hx]; · iexact Hx
      isplitl [Hv]; · iexact Hv
      iexact Hi
    iexact H
  exact h

/-- The TensorCore's two result arrays of the copy. -/
abbrev b' : DevRef τ sig := Proc.devRef .tc (main_v1 : Ref sig .tc)
abbrev o' : DevRef τ sig := Proc.devRef .tc (main_v2 : Ref sig .tc)
abbrev opCopy : HloOp τ sig (Elt F) := StableHlo.unary main_v1 main_v2 id
abbrev S2 : Finset (DevRef τ sig) := {b', o'}

theorem held_S2 (d : Dev nD) (W : Valuation τ sig (Elt F)) :
    (held (T d) S2 W : sProp 𝕄) = iprop((bLoc d ↦{fullShare} W b') ∗ oLoc d ↦{fullShare} W o') := by
  unfold held S2
  rw [SparseCore.bigSep_insert' (by decide), bigSep_singleton]

def V1 (d : Dev nD) (f : Buf (Elt F) (bLoc d)) (g : Buf (Elt F) (oLoc d)) : Valuation τ sig (Elt F) :=
  Function.update (Function.update (fun b => m (d, b)) o' g) b' f

theorem V1_b (d : Dev nD) (f : Buf (Elt F) (bLoc d)) (g : Buf (Elt F) (oLoc d)) : V1 m d f g b' = f := Function.update_self _ _ _
theorem V1_o (d : Dev nD) (f : Buf (Elt F) (bLoc d)) (g : Buf (Elt F) (oLoc d)) : V1 m d f g o' = g :=
  (Function.update_of_ne (show o' ≠ b' by decide) _ _).trans (Function.update_self _ _ _)

include m in
theorem copy_wp (d : Dev nD) (f : Buf (Elt F) (bLoc d)) (g : Buf (Elt F) (oLoc d)) :
    iprop(boundary (T d) ∗ (bLoc d ↦{fullShare} f) ∗ oLoc d ↦{fullShare} g)
      ⊢ (wp frame (wpE ((K (F := F)).defs (D (F := F))) 𝒱 (T d) none) Set.univ
          (hlo rfl (opCopy (F := F)) fun _ => .ret (⟨⟩ : PUnit))
          fun _ => iprop(boundary (T d) ∗ (bLoc d ↦{fullShare} f) ∗ oLoc d ↦{fullShare} (f : Buf (Elt F) (oLoc d))) : sProp 𝕄) := by
  have hb : (opCopy (F := F)).result (V1 m d f g) b' = f :=
    ((opCopy (F := F)).result_of_not_mem (V1 m d f g) (b := b') (show b' ∉ ({o'} : Finset (DevRef τ sig)) by decide)).trans (V1_b m d f g)
  have ho : (opCopy (F := F)).result (V1 m d f g) o' = f :=
    (StableHlo.unary_result main_v1 main_v2 id _ _ (V1 m d f g)).trans (V1_b m d f g)
  have hheld : (held (T d) S2 ((opCopy (F := F)).result (V1 m d f g)) : sProp 𝕄)
      = iprop((bLoc d ↦{fullShare} f) ∗ oLoc d ↦{fullShare} (f : Buf (Elt F) (oLoc d))) := by
    rw [held_S2, hb, ho]
  iintro ⟨Hb, Hf, Hg⟩
  iapply (wp_hlo_within 𝒱 (SparseCore.T d) none Set.univ (op := opCopy) (S := S2) (show ({b', o'} : Finset (DevRef τ sig)) ⊆ S2 by decide) (V := V1 m d f g)) $$ [Hb Hf Hg]
  · isplitl [Hb]; · iexact Hb
    rw [held_S2, V1_b, V1_o]
    isplitl [Hf]; · iexact Hf
    iexact Hg
  iintro ⟨Hb, Hheld⟩
  ihave Hheld := (Entails.of_eq hheld) $$ Hheld
  icases Hheld with ⟨Hf, Hg⟩
  rw [wp_ret]; imodintro
  isplitl [Hb]; · iexact Hb
  isplitl [Hf]; · iexact Hf
  iexact Hg

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (aLoc d ↦{fullShare} W main_v0)
      ∗ (bLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

/-- The two rounds' pieces of `G`. -/
theorem G_eq (d : Dev nD) : (G d : sProp 𝕄)
    = iprop((Pipeline.cellsGhost (pins (F := F)) EP 0 d ∗ Pipeline.cellsGhost (pins (F := F)) EP 1 d)
      ∗ Pipeline.toksInit (pins (F := F)) EP 0 d ∗ Pipeline.toksInit (pins (F := F)) EP 1 d) := by
  unfold G
  rw [bigSep_fin_two, bigSep_fin_two]; rfl

/-- The arrays' contents as the two pipelined calls find them. -/
abbrev xAt (d : Dev nD) : Buf (Elt F) (xLoc d) := m (xLoc d)
abbrev aAt (d : Dev nD) : Buf (Elt F) (aLoc d) := scAll (m (xLoc d))
abbrev bAt (d : Dev nD) : Buf (Elt F) (bLoc d) := m (bLoc d)
def oAt (d : Dev nD) : Buf (Elt F) (oLoc d) := after1 (xAt m) (bAt m) d

/-- The result: the first 1024 rows as the SparseCores make them, the others as the TensorCore does. -/
def outVal (x : S4096x4096.Idx → Elt F .f32) (i : S4096x4096.Idx) : Elt F .f32 :=
  if (i 0).val / 128 < 8 then scAll x (inFirst i) else tcAll x i

theorem after_eq (d : Dev nD) : after2 (aAt m) (oAt m) d = outVal (m (xLoc d)) := by
  rw [after2_eq]
  funext i
  unfold outVal oAt
  rw [after1_eq]
  by_cases h : (i 0).val / 128 < 8
  · rw [if_pos h, if_pos h]
  · rw [if_neg h, if_neg h]
    exact if_pos (Nat.le_of_not_lt h)

abbrev FIN (d : Dev nD) : sProp 𝕄 :=
  iprop((xLoc d ↦{fullShare} m (xLoc d)) ∗ (lLoc d ↦{fullShare} m (lLoc d)) ∗ oLoc d ↦{fullShare} (outVal (m (xLoc d)) : Buf (Elt F) (oLoc d)))

/-- After the SparseCore call nothing is owed. -/
theorem tcSt_idle (d : Dev nD) : (K (F := F)).tcSt EH d 1 ⊢ (iprop(idleTc d ∗ (idleTc d -∗ (K (F := F)).tcSt EH d 1)) : sProp 𝕄) := by
  unfold SparseCore.Cfg.tcSt idleTc
  rw [(K (F := F)).Otc_end d (le_refl 1)]
  iintro ⟨H, Hr⟩
  isplitl [H]; · iexact H
  iintro H
  isplitl [H]; · iexact H
  iexact Hr

set_option maxHeartbeats 1600000 in
/-- @main on a TensorCore, from what the launch deals it to the arrays at the end. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, G_eq]
  simp only [main, wp_bind, wp_pure]
  iintro ⟨#Hctx, Hst, ⟨Hb, ⟨Hx, Hl, Ha, Hv, Ho⟩, Hts, -⟩, ⟨Hg0, Hg1⟩, Ht0, Ht1⟩
  -- the SparseCores' rows
  ihave Hd := (deal m d (m (aLoc d))).2 $$ [Hx Ha]
  · isplitl [Hx]; · iexact Hx
    iexact Ha
  icases Hd with ⟨Hd, Hr⟩
  iapply ((K (F := F)).wp_run (D (F := F)) 𝒱 (EH := EH) (P := P m) κ d 0) $$ [Hst Hd Hr Hb Hl Hv Ho Hts Hg0 Hg1 Ht0 Ht1]
  isplitr; · iexact Hctx
  isplitl [Hst]; · iexact Hst
  isplitl [Hd]; · iexact Hd
  iintro ⟨Hst, Hd⟩
  ihave Hxa := (deal m d (scAll (m (xLoc d)))).1 $$ [Hd Hr]
  · isplitl [Hd]; · iexact Hd
    iexact Hr
  icases Hxa with ⟨Hx, Ha⟩
  ihave Hst := (show (K (F := F)).tcSt EH d ((0 : Fin 1).val + 1) ⊢ (iprop(idleTc d ∗ (idleTc d -∗ (K (F := F)).tcSt EH d 1)) : sProp 𝕄) from tcSt_idle d) $$ Hst
  icases Hst with ⟨Hidle, Hst⟩
  -- the quantising call
  iapply (wp_wand_r (M := 𝕄) frame (wpE ((K (F := F)).defs (D (F := F))) 𝒱 (T d) none) Set.univ)
  isplitl [Hb Hx Hv Hidle Hg0 Ht0]
  · iapply (quantise_wp m (xAt m) (bAt m) d rfl rfl)
    isplitl [Hb]; · iexact Hb
    isplitl [Hx]; · iexact Hx
    isplitl [Hv]; · iexact Hv
    isplitl [Hidle]; · iexact Hidle
    isplitr; · iapply ((K (F := F)).ctx_levAts κ); iexact Hctx
    isplitl [Hg0]; · iexact Hg0
    iexact Ht0
  iintro %u ⟨Hb, Hx, Hv, Hidle⟩
  -- the copy
  iapply (wp_wand_r (M := 𝕄) frame (wpE ((K (F := F)).defs (D (F := F))) 𝒱 (T d) none) Set.univ)
  isplitl [Hb Hv Ho]
  · iapply (copy_wp m d (after1 (xAt m) (bAt m) d) (m (oLoc d)))
    isplitl [Hb]; · iexact Hb
    isplitl [Hv]; · iexact Hv
    iexact Ho
  iintro %u' ⟨Hb, Hv, Ho⟩
  -- the copying call
  iapply (wp_wand_r (M := 𝕄) frame (wpE ((K (F := F)).defs (D (F := F))) 𝒱 (T d) none) Set.univ)
  isplitl [Hb Ha Ho Hidle Hg1 Ht1]
  · iapply (merge_wp m (aAt m) (oAt m) d)
    isplitl [Hb]; · iexact Hb
    isplitl [Ha]; · iexact Ha
    isplitl [Ho]; · iexact Ho
    isplitl [Hidle]; · iexact Hidle
    isplitr; · iapply ((K (F := F)).ctx_levAts κ); iexact Hctx
    isplitl [Hg1]; · iexact Hg1
    iexact Ht1
  iintro %u'' ⟨Hb, -, Ho, Hidle⟩
  imodintro
  isplitl [Hst Hidle]
  · iapply Hst; iexact Hidle
  isplitr [Hb Hts]
  · isplitl [Hx]; · iexact Hx
    isplitl [Hl]; · iexact Hl
    ihave Ho := (Entails.of_eq (congrArg (fun f => (oLoc d ↦{fullShare} f : sProp 𝕄)) (after_eq m d))) $$ Ho
    iexact Ho
  isplitl [Hb] <;> iassumption

def fq (d : Dev nD) (s' : Phys nD τ sig (Elt F)) : Prop :=
  s'.mem.mem (xLoc d) = m (xLoc d) ∧ s'.mem.mem (lLoc d) = m (lLoc d) ∧ s'.mem.mem (oLoc d) = outVal (m (xLoc d))

theorem hfin (d : Dev nD) (s' : Phys nD τ sig (Elt F)) : iprop(FIN m d ∗ SI s') ⊢ (⌜fq m d s'⌝ : sProp 𝕄) := by
  iintro ⟨⟨Hx, Hl, Ho⟩, HSI⟩
  icombine HSI Hx gives %hx
  icombine HSI Hl gives %hl
  icombine HSI Ho gives %ho
  ipureintro
  exact ⟨funext fun i => hx i (Finset.mem_univ i), funext fun i => hl i (Finset.mem_univ i), funext fun i => ho i (Finset.mem_univ i)⟩

/-! ## The program's run -/

/-- The arrays and the semaphores at the end of a run. -/
def QC : PUnit × MemSt nD τ sig (Elt F) → Prop := fun r =>
  (∀ c : Dev nD, r.2.mem (xLoc c) = m (xLoc c) ∧ r.2.mem (lLoc c) = m (lLoc c) ∧ r.2.mem (oLoc c) = outVal (m (xLoc c))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Nf4

end
-- ==== Proof.Frames.lean ====
/-
  The kernel's frames: its run leaves the arguments as they were and every semaphore at zero, at both readings of its floats.
-/
module

public import proofs.«01_k».proof.Proof.Launch
public import proofs.«01_k».proof.Proof.Gen.Kernel
public import proofs.«01_k».proof.Proof.Gen.Pre_nf4
public import proofs.«01_k».proof.Defs

@[expose] public section

noncomputable section

namespace Cert.Proof.Nf4

open Cert.KernelIdeal Cert.KernelIdeal.Gen
open Idealize.ShloMosaic Idealize.SL Idealize.SL.Sem

/-! ## The kernel read at extended reals -/

theorem frame_ideal : Cert.quiescent_KernelIdeal := fun m g _ =>
  (θ_run Cert.KernelIdeal.defs _ _).mono (fun _ h => ⟨fun c => ⟨(h.1 c).1, (h.1 c).2.1⟩, h.2⟩) (run_main (F := Ideal) m g)

theorem frame_ideal_pre : Cert.quiescent_KernelIdeal_pre_nf4 := fun m g _ => frame_ideal m g trivial

/-! ## The kernel on words: a named constant is the word it names -/

/-- At the words a constant's name adds nothing to it. -/
abbrev nb : Named Bits := ⟨fun _ _ {φ} b => FloatOps.ofBits φ b⟩

attribute [local instance] nb

theorem tc_kernel_words : @Cert.Kernel.cc1__tc_kernel Bits _ _ = @Cert.KernelIdeal.cc1__tc_kernel Bits _ _ _ := rfl

theorem defs₀_words : @Cert.Kernel.defs₀ Bits _ _ = @Cert.KernelIdeal.defs₀ Bits _ _ _ := by
  funext p ℓ a
  match p, ℓ, a with
  | .scVector c s, 0, _ => rfl
  | .scVector c s, 1, _ => rfl
  | .scVector c s, 2, _ => rfl
  | .tc, 0, _ => rfl
  | .tc, 1, (t, s) => exact congrFun (congrFun (congrFun (congrFun (congrFun tc_kernel_words _) _) _) _) _
  | .tc, 2, (t, s) => rfl
  | .scScalar c, 0, _ => rfl
  | .scScalar c, 1, _ => rfl
  | .scScalar c, 2, _ => rfl

theorem defs_words : @Cert.Kernel.defs Bits _ _ = @Cert.KernelIdeal.defs Bits _ _ _ :=
  congrArg (fun d => SparseCore.Cfg.defs Cert.Kernel.sc (Pipeline.defs Cert.Kernel.pcfgs d)) defs₀_words

theorem threads_words : Cert.Kernel.threads (F := Bits) = Cert.KernelIdeal.threads (F := Bits) := rfl

theorem frame_words : Cert.quiescent_Kernel := fun m g _ => by
  rw [defs_words, threads_words]
  exact (θ_run (Cert.KernelIdeal.defs (F := Bits)) _ _).mono (fun _ h => ⟨fun c => ⟨(h.1 c).1, (h.1 c).2.1⟩, h.2⟩) (run_main (F := Bits) m g)

end Cert.Proof.Nf4

end
-- ==== Proof.RefRun.lean ====
/-
  The reference's run: a straight line of array operations, whose result is their composition.
-/
module

public import proofs.«01_k».proof.ReferenceIdeal
public import proofs.«01_k».proof.Proof.Gen.ReferenceIdeal
public import proofs.«01_k».proof.Proof.Gen.Pre_nf4
public import proofs.«01_k».proof.Defs
public import Idealize.ShloMosaic.Lib.StableHlo.RunHlo
public import Idealize.ShloMosaic.Lib.Claim
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem

/-! ## The reference's arrays -/

/-- The argument cut into blocks of sixty-four. -/
def blocks (x : FVec Ideal S4096x4096 .f32) : FVec Ideal S262144x64 .f32 :=
  shapeCast S262144x64 (shapeCast S16777216 x shapeCasts_S4096x4096_S16777216) shapeCasts_S16777216_S262144x64

/-- The largest magnitude of each block. -/
def tops (x : FVec Ideal S4096x4096 .f32) : FVec Ideal S262144 .f32 :=
  Host.reduce FloatOps.maximumf (Host.absf (blocks x)) (constant S_ .f32 0xFF800000#32) reducesTo_S262144x64_S262144_d1 h_S_

/-- Each block's scale: that magnitude, bounded below. -/
def scales (x : FVec Ideal S4096x4096 .f32) : FVec Ideal S262144x1 .f32 :=
  maximumf (broadcastInDim S262144x1 ![] bcast_S_S262144x1 (constant (F := Ideal) S_ .f32 0x322BCC77#32))
    (broadcastInDim S262144x1 ![0] bcast_S262144_S262144x1_0 (tops x))

/-- The scales, one to a word. -/
def wide (x : FVec Ideal S4096x4096 .f32) : FVec Ideal S262144x64 .f32 :=
  broadcastInDim S262144x64 ![0, 1] bcast_S262144x1_S262144x64_0_1 (scales x)

/-- The distance of each word over its scale to each of the sixteen levels. -/
def dists (x : FVec Ideal S4096x4096 .f32) (lv : FVec Ideal S16 .f32) : FVec Ideal S262144x64x16 .f32 :=
  Host.absf (subf
    (broadcastInDim S262144x64x16 ![0, 1, 2] bcast_S262144x64x1_S262144x64x16_0_1_2
      (broadcastInDim S262144x64x1 ![0, 1] bcast_S262144x64_S262144x64x1_0_1 (Host.divf (blocks x) (wide x))))
    (broadcastInDim S262144x64x16 ![0, 1, 2] bcast_S1x1x16_S262144x64x16_0_1_2 (shapeCast S1x1x16 lv shapeCasts_S16_S1x1x16)))

/-- The number of the nearest level. -/
def nearest (D : FVec Ideal S262144x64x16 .f32) : IVec S262144x64 32 := fun j =>
  (Host.argReduce (F := Ideal) reducer_argmin_f32_i32 D (iotaInDim S262144x64x16 32 2) (constant S_ .f32 0x7F800000#32)
    (constantI S_ 32 0#32) reducesTo_S262144x64x16_S262144x64_d2 h_S_ j).2

/-- A number from sixteen under zero up, wrapped. -/
def wrapped (n : IVec S262144x64 32) : IVec S262144x64 32 :=
  select (cmpi .slt n (broadcastInDim S262144x64 ![] bcast_S_S262144x64 (constantI S_ 32 0#32)))
    (addi n (broadcastInDim S262144x64 ![] bcast_S_S262144x64 (constantI S_ 32 16#32))) n

/-- The numbers, as a gather takes them. -/
def asked (n : IVec S262144x64 32) : IVec S262144x64x1 32 :=
  broadcastInDim S262144x64x1 ![0, 1] bcast_S262144x64_S262144x64x1_0_1 (wrapped n)

/-- Which numbers lie inside the table. -/
def within (n : IVec S262144x64 32) : IVec S262144x64 1 :=
  Host.reduce IntOp.andi
    (andi (cmpi .sge (asked n) (broadcastInDim S262144x64x1 ![] bcast_S_S262144x64x1 (constantI S_ 32 0#32)))
      (cmpi .sle (asked n) (broadcastInDim S262144x64x1 ![0, 1, 2] bcast_S1x1x1_S262144x64x1_0_1_2
        (broadcastInDim S1x1x1 ![2] bcast_S1_S1x1x1_2 (constantI S1 32 15#32)))))
    (constantI S_ 1 1#1) reducesTo_S262144x64x1_S262144x64_d2 h_S_

/-- The levels of those numbers. -/
def taken (lv : FVec Ideal S16 .f32) (n : IVec S262144x64 32) : FVec Ideal S262144x64 .f32 :=
  select (within n) (Host.gather gather_S16_S262144x64x1_S262144x64_n_0_n_n_0_2_1 lv (asked n))
    (broadcastInDim S262144x64 ![] bcast_S_S262144x64 (constant (F := Ideal) S_ .f32 0x7FC00000#32))

/-- The reference's result. -/
def refOut (x : FVec Ideal S4096x4096 .f32) (lv : FVec Ideal S16 .f32) : FVec Ideal S4096x4096 .f32 :=
  shapeCast S4096x4096 (mulf (taken lv (nearest (dists x lv))) (wide x)) shapeCasts_S262144x64_S4096x4096

/-! ## The run -/

/-! A call's operand and result buffers hold what their operations say: the type of each is the value's. -/

theorem read_v4 (h₁ h₂ h₃) (v) : (StableHlo.TRef.of (T := ⟨S262144x1, .f32⟩) main_v4 h₁ h₂ h₃ : StableHlo.TRef sig _).ofBuf (Val := Elt Ideal) v = v := rfl
theorem read_cst_0 (h₁ h₂ h₃) (v) : (StableHlo.TRef.of (T := ⟨S_, .f32⟩) main_cst_0 h₁ h₂ h₃ : StableHlo.TRef sig _).ofBuf (Val := Elt Ideal) v = v := rfl
theorem read_v13 (h₁ h₂ h₃) (v) : (StableHlo.TRef.of (T := ⟨S262144x64x16, .f32⟩) main_v13 h₁ h₂ h₃ : StableHlo.TRef sig _).ofBuf (Val := Elt Ideal) v = v := rfl
theorem read_arg1 (h₁ h₂ h₃) (v) : (StableHlo.TRef.of (T := ⟨S16, .f32⟩) main_arg1 h₁ h₂ h₃ : StableHlo.TRef sig _).ofBuf (Val := Elt Ideal) v = v := rfl
theorem write_v5 (h₁ h₂ h₃) (v) : (StableHlo.TRef.of (T := ⟨S262144x1, .f32⟩) main_v5 h₁ h₂ h₃ : StableHlo.TRef sig _).toBuf (Val := Elt Ideal) v = v := rfl
theorem write_v15 (h₁ h₂ h₃) (v) : (StableHlo.TRef.of (T := ⟨S262144x64, .f32⟩) main_v15 h₁ h₂ h₃ : StableHlo.TRef sig _).toBuf (Val := Elt Ideal) v = v := rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, r.2.mem ((c.tc : Thread nD τ).loc main_v18) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  simp only [StableHlo.TRef.ofBuf_toBuf, read_v4, read_cst_0, read_v13, read_arg1, write_v5, write_v15]
  unfold refOut taken within asked wrapped nearest dists wide scales tops blocks
  rfl

/-- The arguments stay; there is no semaphore. -/
theorem frame : Cert.quiescent_ReferenceIdeal := fun m ρ _ =>
  (θ_run (defs (F := Ideal)) _ _).mono (fun r h => ⟨fun c => (h c).2, sem_eq_zero_of_no_sems (by decide) r.2⟩) (run m ρ)

theorem frame_pre : Cert.quiescent_ReferenceIdeal_pre_nf4 := fun m ρ _ => frame m ρ trivial

end Cert.Proof.Ref

end
-- ==== Proof.Quant.lean ====
/-
  The sixteen levels and the fifteen thresholds as real numbers: a threshold is halfway between two neighbouring levels, so
  counting the thresholds that a number exceeds finds the nearest level, the lower of two that are equally near.
-/
module

public import proofs.«01_k».proof.Proof.Shapes
public import proofs.«01_k».proof.Pre_nf4
public import Idealize.ShloMosaic.PureOps.Ideal.Laws
public import Idealize.ShloMosaic.PureOps.IdealRules

@[expose] public section

noncomputable section

namespace Cert.Proof.Nf4

open Cert.KernelIdeal Cert.KernelIdeal.Gen
open Idealize.ShloMosaic

/-- The levels. -/
def lev : Fin 16 → ℝ :=
  ![-1, -11680177 / 16777216, -550579 / 1048576, -414101 / 1048576,
    -9544269 / 33554432, -12399935 / 67108864, -12220529 / 134217728, 0,
    10681087 / 134217728, 10799843 / 67108864, 16516317 / 67108864, 5669277 / 16777216,
    1848471 / 4194304, 9439147 / 16777216, 12129203 / 16777216, 1]

/-- The thresholds. -/
def mid : Fin 15 → ℝ :=
  ![-28457393 / 33554432, -20489441 / 33554432, -120585 / 262144, -22795501 / 67108864,
    -31488473 / 134217728, -37020399 / 268435456, -12220529 / 268435456, 10681087 / 268435456,
    32280773 / 268435456, 426815 / 2097152, 39193425 / 134217728, 13063161 / 33554432,
    16833031 / 33554432, 10784175 / 16777216, 28906419 / 33554432]

/-- The smallest scale. -/
def least : ℝ := 11258999 / 1125899906842624

/-- The words of the table are the levels. -/
theorem lev_bits : ∀ k : Fin 16, Ideal.ofBits .f32 (Cert.Pre_nf4.lit0 k) = ((lev k : ℝ) : EReal) := by
  intro k
  fin_cases k <;> (simp [Cert.Pre_nf4.lit0, lev, Ideal.ofBits, Ideal.ieee, -EReal.coe_mul] <;> norm_num)

theorem least_bits : Ideal.ofBits .f32 0x322BCC77#32 = ((least : ℝ) : EReal) := by
  simp [least, Ideal.ofBits, Ideal.ieee, -EReal.coe_mul]; norm_num

theorem top_bits : Ideal.ofBits .f32 0x7F800000#32 = ⊤ := by
  simp [Ideal.ofBits, Ideal.ieee]

theorem bot_bits : Ideal.ofBits .f32 0xFF800000#32 = ⊥ := by
  simp [Ideal.ofBits, Ideal.ieee]

theorem least_pos : 0 < least := by unfold least; norm_num

theorem mid_eq (k : Fin 15) : mid k = (lev k.castSucc + lev k.succ) / 2 := by
  fin_cases k <;> (simp [mid, lev] <;> norm_num)

theorem lev_step (k : Fin 15) : lev k.castSucc < lev k.succ := by
  fin_cases k <;> (simp [lev] <;> norm_num)

theorem lev_mono : StrictMono lev := Fin.strictMono_iff_lt_succ.2 lev_step

theorem mid_mono : Monotone mid := by
  intro a b h
  rw [mid_eq, mid_eq]
  have h₁ := lev_mono.monotone (show a.castSucc ≤ b.castSucc from h)
  have h₂ := lev_mono.monotone (show a.succ ≤ b.succ from Fin.succ_le_succ_iff.2 h)
  linarith

/-! ## The chain -/

/-- The level chosen after the first `n` thresholds: that of the last which `t` exceeds. -/
def pick (t : ℝ) : (n : ℕ) → n ≤ 15 → ℝ
  | 0, _ => lev 0
  | n + 1, h => if mid ⟨n, h⟩ < t then lev ⟨n + 1, by omega⟩ else pick t n (by omega)

/-- Above the first `k` thresholds and no other, the choice is level `k`. -/
theorem pick_eq {t : ℝ} {k : ℕ} (hk : k < 16) (lo : ∀ j : Fin 15, j.val < k → mid j < t) (hi : ∀ j : Fin 15, k ≤ j.val → t ≤ mid j) :
    ∀ (n : ℕ) (h : n ≤ 15), k ≤ n → pick t n h = lev ⟨k, hk⟩
  | 0, _, h₀ => by obtain rfl : k = 0 := by omega
                   rfl
  | n + 1, h, h₁ => by
    unfold pick
    rcases Nat.lt_or_ge n k with hn | hn
    · obtain rfl : k = n + 1 := by omega
      rw [if_pos (lo _ hn)]
    · rw [if_neg (not_lt.2 (hi ⟨n, h⟩ hn)), pick_eq hk lo hi n (by omega) hn]

/-- The choice is the nearest level, the first of those equally near. -/
theorem pick_nearest (t : ℝ) (k : Fin 16) (first : ∀ j < k, |t - lev k| < |t - lev j|) (near : ∀ j, |t - lev k| ≤ |t - lev j|) :
    pick t 15 le_rfl = lev k := by
  refine pick_eq k.isLt ?_ ?_ 15 le_rfl (by omega)
  · intro j hj
    obtain ⟨k, hk⟩ := k
    obtain ⟨n, rfl⟩ : ∃ n, k = n + 1 := ⟨k - 1, by simp only at hj; omega⟩
    refine lt_of_le_of_lt (mid_mono (show j ≤ (⟨n, by omega⟩ : Fin 15) from by simp only at hj; exact Fin.le_def.2 (by simpa using Nat.lt_succ_iff.1 hj))) ?_
    have h := first (Fin.castSucc ⟨n, by omega⟩) (Fin.lt_def.2 (by simp))
    have hs := lev_step ⟨n, by omega⟩
    rw [mid_eq]
    change |t - lev (Fin.succ ⟨n, by omega⟩)| < _ at h
    by_contra hc
    have h₁ := neg_abs_le (t - lev (Fin.succ ⟨n, by omega⟩))
    have h₂ : |t - lev (Fin.castSucc ⟨n, by omega⟩)| ≤ lev (Fin.succ ⟨n, by omega⟩) - t := by
      rw [abs_le]; constructor <;> linarith
    linarith
  · intro j hj
    refine le_trans ?_ (mid_mono (show (⟨k.val, by omega⟩ : Fin 15) ≤ j from hj))
    have h := near (Fin.succ ⟨k.val, by omega⟩)
    have hs := lev_step ⟨k.val, by omega⟩
    rw [mid_eq]
    change |t - lev (Fin.castSucc ⟨k.val, by omega⟩)| ≤ _ at h
    by_contra hc
    have h₁ := le_abs_self (t - lev (Fin.castSucc ⟨k.val, by omega⟩))
    have h₂ : |t - lev (Fin.succ ⟨k.val, by omega⟩)| < t - lev (Fin.castSucc ⟨k.val, by omega⟩) := by
      rw [abs_lt]; constructor <;> linarith
    linarith

end Cert.Proof.Nf4

end
-- ==== Proof.KerVal.lean ====
/-
  The kernel's result at extended reals: each word is the level nearest its quotient by the block's scale, times the scale.
-/
module

public import proofs.«01_k».proof.Proof.Quant
public import proofs.«01_k».proof.Proof.Final
public import Idealize.ShloMosaic.Lib.Pointwise

@[expose] public section

noncomputable section

namespace Cert.Proof.Nf4

open Cert.KernelIdeal Cert.KernelIdeal.Gen
open Idealize.ShloMosaic

/-! ## A block's scale -/

/-- `a` is the largest magnitude of the sixty-four words `w`, bounded below. -/
def IsTop (a : EReal) (w : Fin 64 → EReal) : Prop :=
  ∀ u, a ≤ u ↔ ((least : ℝ) : EReal) ≤ u ∧ ∀ p, max (w p) (-w p) ≤ u

theorem IsTop.unique {a b : EReal} {w : Fin 64 → EReal} (ha : IsTop a w) (hb : IsTop b w) : a = b :=
  eq_of_forall_ge_iff fun u => (ha u).trans (hb u).symm

/-- Of real words it is a positive real. -/
theorem IsTop.real {a : EReal} {w : Fin 64 → ℝ} (ha : IsTop a fun p => (w p : EReal)) : ∃ r : ℝ, 0 < r ∧ a = (r : EReal) := by
  have lo : ((least : ℝ) : EReal) ≤ a := ((ha a).1 le_rfl).1
  have hi : a ≤ ((max least (Finset.univ.sup' Finset.univ_nonempty fun p => |w p|) : ℝ) : EReal) := by
    refine (ha _).2 ⟨EReal.coe_le_coe_iff.2 (le_max_left _ _), fun p => ?_⟩
    have hp : |w p| ≤ max least (Finset.univ.sup' Finset.univ_nonempty fun p => |w p|) :=
      le_max_of_le_right (Finset.le_sup' (fun p => |w p|) (Finset.mem_univ p))
    refine max_le ?_ ?_
    · exact EReal.coe_le_coe_iff.2 ((le_abs_self _).trans hp)
    · rw [← EReal.coe_neg]; exact EReal.coe_le_coe_iff.2 ((neg_le_abs _).trans hp)
  induction a with
  | bot => exact absurd lo (by simp)
  | top => exact absurd hi (by simp)
  | coe r => exact ⟨r, lt_of_lt_of_le least_pos (EReal.coe_le_coe_iff.1 lo), rfl⟩

/-! ## The chain at a place -/

theorem absf_max (x : Ideal .f32) : FloatOps.absf (F := Ideal) x = max x (-x) := rfl

/-- A threshold's name at extended reals. -/
theorem named_mid (n : String) (b : BitVec 32) (k : Fin 15) (h : κ n = some ((mid k : ℝ) : EReal)) :
    Named.named (F := Ideal) κ n (φ := .f32) b = ((mid k : ℝ) : EReal) := IdealRules.named_const.ideal_named_scalar _ _ _ _ h

theorem link_apply {s : Shape} (v : FVec Ideal s .f32) (t : Ideal .f32) (c : BitVec 32) (w : FVec Ideal s .f32) (i : s.Idx) :
    link v t c w i = if t < v i then Ideal.ofBits .f32 c else w i := by
  unfold link
  pointwise

theorem chain_apply {s : Shape} (v : FVec Ideal s .f32) (f : Ideal .f32 → Ideal .f32) (i : s.Idx) (t : ℝ)
    (h : ∀ k, f ((mid k : ℝ) : EReal) < v i ↔ mid k < t) : chain v f i = ((pick t 15 le_rfl : ℝ) : EReal) := by
  unfold chain
  rw [named_mid "mid0" _ 0 rfl, named_mid "mid1" _ 1 rfl, named_mid "mid2" _ 2 rfl, named_mid "mid3" _ 3 rfl, named_mid "mid4" _ 4 rfl,
    named_mid "mid5" _ 5 rfl, named_mid "mid6" _ 6 rfl, named_mid "mid7" _ 7 rfl, named_mid "mid8" _ 8 rfl, named_mid "mid9" _ 9 rfl,
    named_mid "mid10" _ 10 rfl, named_mid "mid11" _ 11 rfl, named_mid "mid12" _ 12 rfl, named_mid "mid13" _ 13 rfl, named_mid "mid14" _ 14 rfl]
  simp only [link_apply, h, pick, apply_ite (fun r : ℝ => (r : EReal)), ← lev_bits]
  rfl

/-- A maximum of sixteen numbers taken one by one, and one more. -/
theorem max_row (M : Fin 16 → EReal) (l u : EReal) :
    max (max (max (max (max (max (max (max (max (max (max (max (max (max (max (max (M 0) (M 1)) (M 2)) (M 3)) (M 4)) (M 5)) (M 6)) (M 7)) (M 8))
      (M 9)) (M 10)) (M 11)) (M 12)) (M 13)) (M 14)) (M 15)) l ≤ u ↔ l ≤ u ∧ ∀ k, M k ≤ u := by
  constructor
  · intro h
    simp only [max_le_iff] at h
    refine ⟨h.2, fun k => ?_⟩
    fin_cases k <;> simp_all
  · rintro ⟨h₁, h₂⟩
    simp only [max_le_iff, h₁, h₂, and_self]

theorem scAm_top (a b c e : Vec Ideal S1x16 .f32) :
    IsTop (scAm (F := Ideal) a b c e) fun p => (![a, b, c, e] ⟨p.val / 16, by omega⟩) (ix2 0 ⟨p.val % 16, by omega⟩) := by
  intro u
  unfold scAm
  unfold_payloads
  pointwise
  simp only [absf_max, least_bits]
  refine (max_row (fun k => max (max (max (a (ix2 0 k)) (-a (ix2 0 k))) (max (b (ix2 0 k)) (-b (ix2 0 k))))
    (max (max (c (ix2 0 k)) (-c (ix2 0 k))) (max (e (ix2 0 k)) (-e (ix2 0 k))))) _ u).trans (and_congr_right fun _ => ?_)
  constructor
  · intro h p
    have hp := h ⟨p.val % 16, by omega⟩
    simp only [max_le_iff] at hp ⊢
    generalize hq : (⟨p.val / 16, by omega⟩ : Fin 4) = q
    fin_cases q
    · exact hp.1.1
    · exact hp.1.2
    · exact hp.2.1
    · exact hp.2.2
  · intro h k
    have key : ∀ q : Fin 4, max ((![a, b, c, e] q) (ix2 0 k)) (-(![a, b, c, e] q) (ix2 0 k)) ≤ u := fun q => by
      have hq := h ⟨16 * q.val + k.val, by omega⟩
      simp only [show (⟨(16 * q.val + k.val) / 16, by omega⟩ : Fin 4) = q from Fin.ext (by simp only; omega),
        show (⟨(16 * q.val + k.val) % 16, by omega⟩ : Fin 16) = k from Fin.ext (by simp only; omega)] at hq
      exact hq
    exact max_le (max_le (key 0) (key 1)) (max_le (key 2) (key 3))

theorem scOut_apply (am : Ideal .f32) (a : Vec Ideal S1x16 .f32) (y : S1x16.Idx) :
    scOut (F := Ideal) am a y = chain (F := Ideal) a (fun t => am * t) y * am := by
  unfold scOut chain link
  pointwise

theorem tcAm_apply (v : Vec Ideal S128x128 .f32) (z : S128x128.Idx) :
    IsTop (tcAm (F := Ideal) v z) fun p => v (ix2 (z 0) ⟨(z 1).val / 64 * 64 + p.val, by have h : (z 1).val < 128 := (z 1).isLt; omega⟩) := by
  intro u
  unfold tcAm
  pointwise
  simp only [absf_max, least_bits, bot_bits]
  rw [max_le_iff, and_comm]
  refine and_congr_right fun _ => ?_
  have hz : (z 1).val < 128 := (z 1).isLt
  split
  · simp only [show (z 1).val / 64 * 64 = 0 from by omega, Nat.zero_add, Finset.fold_max_le, bot_le, true_and, Finset.mem_univ, true_imp_iff]
  · simp only [show (z 1).val / 64 * 64 = 64 from by omega, Finset.fold_max_le, bot_le, true_and, Finset.mem_univ, true_imp_iff]

end Cert.Proof.Nf4

end
-- ==== Proof.KerOut.lean ====
/-
  The kernel's result at real words: the level nearest the word's quotient by its block's scale, times the scale.
-/
module

public import proofs.«01_k».proof.Proof.KerVal
public import proofs.«01_k».proof.Proof.Launch

@[expose] public section

noncomputable section

namespace Cert.Proof.Nf4

open Cert.KernelIdeal Cert.KernelIdeal.Gen
open Idealize.ShloMosaic

/-- The sixty-four words of the block that `i` lies in. -/
def row {α : Type} (x : S4096x4096.Idx → α) (i : S4096x4096.Idx) (p : Fin 64) : α :=
  x (ix2 (i 0) ⟨(i 1).val / 64 * 64 + p.val, by have h : (i 1).val < 4096 := (i 1).isLt; omega⟩)

/-- The quantised word: the level nearest `v / a`, times `a`. -/
def quant (a v : ℝ) : EReal := ((pick (v / a) 15 le_rfl * a : ℝ) : EReal)

theorem scOut_quant (am : Ideal .f32) (v : Vec Ideal S1x16 .f32) (y : S1x16.Idx) (a t : ℝ) (ha : 0 < a) (hm : am = (a : EReal)) (hv : v y = (t : EReal)) :
    scOut (F := Ideal) am v y = quant a t := by
  subst hm
  rw [scOut_apply, chain_apply v _ y (t / a), quant, EReal.coe_mul]
  intro k
  rw [hv, ← EReal.coe_mul, EReal.coe_lt_coe_iff, lt_div_iff₀' ha]

theorem tcVal_quant (v : Vec Ideal S128x128 .f32) (z : S128x128.Idx) (a t : ℝ) (ha : 0 < a) (hm : tcAm v z = (a : EReal)) (hv : v z = (t : EReal)) :
    tcVal (F := Ideal) v z = quant a t := by
  have hd : divf v (tcAm v) z = ((t / a : ℝ) : EReal) := by
    show Ideal.div (v z) (tcAm v z) = _
    rw [hm, hv, Ideal.div_coe ha.ne', ← EReal.coe_mul, mul_one_div]
  show chain (divf v (tcAm v)) (fun t => t) z * tcAm v z = _
  rw [chain_apply _ _ z (t / a), hm, quant, EReal.coe_mul]
  intro k
  rw [hd, EReal.coe_lt_coe_iff]

/-- The quarters of a block, one after another, are its words. -/
theorem quarters {α : Type} (f : Fin 4 → S1x16.Idx → α) (p : Fin 64) :
    (![f 0, f 1, f 2, f 3] ⟨p.val / 16, by omega⟩) (ix2 0 ⟨p.val % 16, by omega⟩) = f ⟨p.val / 16, by omega⟩ (ix2 0 ⟨p.val % 16, by omega⟩) := by
  generalize (⟨p.val / 16, by omega⟩ : Fin 4) = q
  fin_cases q <;> rfl

/-- The four rows that a row of the first 1024 lies in, as indices of the array, and its place in them. -/
def ofRows (y : S1024x4096.Idx) (z : S4x4096.Idx) : S4096x4096.Idx := fun a => match a with
  | 0 => ⟨4 * ((y 0).val / 4) + (z 0).val, by
      have h0 : (y 0).val < 1024 := (y 0).isLt
      have h1 : (z 0).val < 4 := (z 0).isLt
      show _ < 4096; omega⟩
  | 1 => ⟨(z 1).val, (z 1).isLt⟩
def inRows (y : S1024x4096.Idx) : S4x4096.Idx := fun a => match a with
  | 0 => ⟨(y 0).val % 4, Nat.mod_lt _ (by decide)⟩
  | 1 => ⟨(y 1).val, (y 1).isLt⟩

theorem scAll_rows {F : FTy → Type} [FloatOps F] [Named F] (x : S4096x4096.Idx → Elt F .f32) (y : S1024x4096.Idx) :
    scAll x y = scBlk (fun z => x (ofRows y z)) (inRows y) := rfl

theorem scBlk_quant (X : S4x4096.Idx → ℝ) (Y : S4x4096.Idx) :
    ∃ a : ℝ, 0 < a ∧ IsTop (a : EReal)
        (fun p => ((X (ix2 (Y 0) ⟨(Y 1).val / 64 * 64 + p.val, by have h : (Y 1).val < 4096 := (Y 1).isLt; omega⟩) : ℝ) : EReal))
      ∧ scBlk (F := Ideal) (fun z => (X z : EReal)) Y = quant a (X Y) := by
  have h1 : (Y 1).val < 4096 := (Y 1).isLt
  unfold scBlk
  have hT := scAm_top (laneOf (F := Ideal) (fun z => (X z : EReal)) (tripOf Y) 0) (laneOf (F := Ideal) (fun z => (X z : EReal)) (tripOf Y) 1)
    (laneOf (F := Ideal) (fun z => (X z : EReal)) (tripOf Y) 2) (laneOf (F := Ideal) (fun z => (X z : EReal)) (tripOf Y) 3)
  replace hT := (funext fun p => quarters (laneOf (F := Ideal) (fun z => (X z : EReal)) (tripOf Y)) p : _ = _) ▸ hT
  have e : (fun p : Fin 64 => laneOf (F := Ideal) (fun z => (X z : EReal)) (tripOf Y) ⟨p.val / 16, by omega⟩ (ix2 0 ⟨p.val % 16, by omega⟩))
      = fun p => ((X (ix2 (Y 0) ⟨(Y 1).val / 64 * 64 + p.val, by omega⟩) : ℝ) : EReal) := by
    funext p
    obtain ⟨e0, e1⟩ := lane_emb_val (tripOf Y) ⟨p.val / 16, by omega⟩ (ix2 0 ⟨p.val % 16, by omega⟩)
    have t : (tripOf Y).val = (Y 0).val * 64 + (Y 1).val / 64 := rfl
    refine congrArg (fun j => ((X j : ℝ) : EReal)) (funext fun a => Fin.ext ?_)
    match a with
    | 0 => refine e0.trans ?_; show _ = (Y 0).val; rw [t]; omega
    | 1 =>
      refine e1.trans ?_
      show _ + 16 * (p.val / 16) + p.val % 16 = (Y 1).val / 64 * 64 + p.val
      rw [t]; omega
  rw [e] at hT
  obtain ⟨a, ha, hm⟩ := hT.real
  refine ⟨a, ha, hm ▸ hT, scOut_quant _ _ _ a (X Y) ha hm ?_⟩
  exact congrArg (fun j => ((X j : ℝ) : EReal)) (lane_emb_place Y)

theorem scAll_quant (r : S4096x4096.Idx → ℝ) (i : S4096x4096.Idx) (hi : (i 0).val / 128 < 8) :
    ∃ a : ℝ, 0 < a ∧ IsTop (a : EReal) (fun p => ((row r i p : ℝ) : EReal)) ∧ scAll (F := Ideal) (fun j => (r j : EReal)) (inFirst i) = quant a (r i) := by
  obtain ⟨a, ha, hT, hv⟩ := scBlk_quant (fun z => r (ofRows (inFirst i) z)) (inRows (inFirst i))
  have at_ : ∀ (z : S4x4096.Idx) (j : S4096x4096.Idx), (z 0).val = (i 0).val % 4 → j 0 = i 0 → (j 1).val = (z 1).val →
      ofRows (inFirst i) z = j := by
    intro z j z0 j0 j1
    funext a
    match a with
    | 0 => exact Fin.ext (by show 4 * ((i 0).val % 1024 / 4) + (z 0).val = (j 0).val; rw [z0, j0]; omega)
    | 1 => exact Fin.ext j1.symm
  have y0 : (inRows (inFirst i) 0).val = (i 0).val % 4 := by show (i 0).val % 1024 % 4 = _; omega
  refine ⟨a, ha, ?_, ?_⟩
  · convert hT using 3 with p
    refine congrArg r (at_ _ _ ?_ ?_ ?_).symm
    exacts [y0, rfl, rfl]
  · exact (scAll_rows _ _).trans (hv.trans (congrArg (quant a) (congrArg r (at_ _ _ y0 rfl rfl))))

theorem tcBlk_quant (X : S128x4096.Idx → ℝ) (Y : S128x4096.Idx) :
    ∃ a : ℝ, 0 < a ∧ IsTop (a : EReal)
        (fun p => ((X (ix2 (Y 0) ⟨(Y 1).val / 64 * 64 + p.val, by have h : (Y 1).val < 4096 := (Y 1).isLt; omega⟩) : ℝ) : EReal))
      ∧ tcBlk (F := Ideal) (fun z => (X z : EReal)) Y = quant a (X Y) := by
  have h1 : (Y 1).val < 4096 := (Y 1).isLt
  unfold tcBlk
  have hT := tcAm_apply (fun z => ((X ((group (groupNo Y) (groupNo_lt Y)).emb z) : ℝ) : EReal)) (inGroup Y)
  have e : ∀ p : Fin 64, (group (groupNo Y) (groupNo_lt Y)).emb (ix2 (inGroup Y 0) ⟨(inGroup Y 1).val / 64 * 64 + p.val, by
      have h : (inGroup Y 1).val < 128 := (inGroup Y 1).isLt; omega⟩) = ix2 (Y 0) ⟨(Y 1).val / 64 * 64 + p.val, by omega⟩ := by
    intro p
    obtain ⟨e0, e1⟩ := group_emb (groupNo Y) (groupNo_lt Y) (ix2 (inGroup Y 0) ⟨(inGroup Y 1).val / 64 * 64 + p.val, by
      have h : (inGroup Y 1).val < 128 := (inGroup Y 1).isLt; omega⟩)
    funext a
    match a with
    | 0 => exact Fin.ext e0
    | 1 =>
      refine Fin.ext (e1.trans ?_)
      show 128 * ((Y 1).val / 128) + ((Y 1).val % 128 / 64 * 64 + p.val) = (Y 1).val / 64 * 64 + p.val
      omega
  simp only [e] at hT
  obtain ⟨a, ha, hm⟩ := hT.real
  refine ⟨a, ha, hm ▸ hT, tcVal_quant _ _ a (X Y) ha hm ?_⟩
  exact congrArg (fun j => ((X j : ℝ) : EReal)) (emb_inGroup Y)

theorem tcAll_quant (r : S4096x4096.Idx → ℝ) (i : S4096x4096.Idx) :
    ∃ a : ℝ, 0 < a ∧ IsTop (a : EReal) (fun p => ((row r i p : ℝ) : EReal)) ∧ tcAll (F := Ideal) (fun j => (r j : EReal)) i = quant a (r i) := by
  obtain ⟨a, ha, hT, hv⟩ := tcBlk_quant (fun z => r (ofBlock i z)) (inBlock i)
  have at_ : ∀ (z : S128x4096.Idx) (j : S4096x4096.Idx), (z 0).val = (i 0).val % 128 → j 0 = i 0 → (j 1).val = (z 1).val →
      ofBlock i z = j := by
    intro z j z0 j0 j1
    funext a
    match a with
    | 0 => exact Fin.ext (by show 128 * ((i 0).val / 128) + (z 0).val = (j 0).val; rw [z0, j0]; omega)
    | 1 => exact Fin.ext j1.symm
  refine ⟨a, ha, ?_, ?_⟩
  · convert hT using 3 with p
    refine congrArg r (at_ _ _ ?_ ?_ ?_).symm
    exacts [rfl, rfl, rfl]
  · refine hv.trans (congrArg (quant a) (congrArg r (at_ _ _ rfl rfl rfl)))

/-- The kernel's result at real words. -/
theorem outVal_quant (r : S4096x4096.Idx → ℝ) (i : S4096x4096.Idx) :
    ∃ a : ℝ, 0 < a ∧ IsTop (a : EReal) (fun p => ((row r i p : ℝ) : EReal)) ∧ outVal (F := Ideal) (fun j => (r j : EReal)) i = quant a (r i) := by
  unfold outVal
  split
  · next h => exact scAll_quant r i h
  · exact tcAll_quant r i

end Cert.Proof.Nf4

end
-- ==== Proof.RefVal.lean ====
/-
  The reference's result at real words: the same levels times the same scales.
-/
module

public import proofs.«01_k».proof.Proof.RefRun
public import proofs.«01_k».proof.Proof.KerOut
public import Idealize.ShloMosaic.Lib.Pointwise
public import Idealize.ShloMosaic.Lib.ValueIdx

@[expose] public section

noncomputable section

namespace Cert.Proof.Ref

open Cert.ReferenceIdeal Cert.ReferenceIdeal.Gen
open Idealize.ShloMosaic Cert.Proof.Nf4

/-! ## Blocks and scales -/

theorem blocks_apply (x : FVec Ideal S4096x4096 .f32) (b : Fin 262144) (q : Fin 64) :
    blocks x (ix2 b q) = x (ix2 ⟨b.val / 64, by omega⟩ ⟨b.val % 64 * 64 + q.val, by omega⟩) := by
  unfold blocks
  pointwise

theorem row_top (B : FVec Ideal S262144x64 .f32) (b : Fin 262144) (u : EReal) :
    Host.reduce FloatOps.maximumf (Host.absf B) (constant (F := Ideal) S_ .f32 0xFF800000#32) reducesTo_S262144x64_S262144_d1 h_S_ (ix1 b) ≤ u
      ↔ ∀ p : Fin 64, max (B (ix2 b p)) (-B (ix2 b p)) ≤ u := by
  pointwise
  simp only [absf_max, bot_bits, Finset.fold_max_le, bot_le, true_and, Finset.mem_univ, true_imp_iff]

theorem widened (M : FVec Ideal S262144 .f32) (b : Fin 262144) (q : Fin 64) :
    broadcastInDim S262144x64 ![0, 1] bcast_S262144x1_S262144x64_0_1
        (maximumf (broadcastInDim S262144x1 ![] bcast_S_S262144x1 (constant (F := Ideal) S_ .f32 0x322BCC77#32))
          (broadcastInDim S262144x1 ![0] bcast_S262144_S262144x1_0 M)) (ix2 b q)
      = max ((least : ℝ) : EReal) (M (ix1 b)) := by
  rw [← least_bits]
  pointwise

theorem product (A B : FVec Ideal S262144x64 .f32) (i : S4096x4096.Idx) :
    shapeCast S4096x4096 (mulf A B) shapeCasts_S262144x64_S4096x4096 i
      = A (ix2 ⟨(i 0).val * 64 + (i 1).val / 64, by have h0 : (i 0).val < 4096 := (i 0).isLt; have h1 : (i 1).val < 4096 := (i 1).isLt; omega⟩ ⟨(i 1).val % 64, by omega⟩)
        * B (ix2 ⟨(i 0).val * 64 + (i 1).val / 64, by have h0 : (i 0).val < 4096 := (i 0).isLt; have h1 : (i 1).val < 4096 := (i 1).isLt; omega⟩ ⟨(i 1).val % 64, by omega⟩) := by
  pointwise

theorem distance (B W : FVec Ideal S262144x64 .f32) (lv : FVec Ideal S16 .f32) (b : Fin 262144) (q : Fin 64) (k : Fin 16) :
    Host.absf (subf
      (broadcastInDim S262144x64x16 ![0, 1, 2] bcast_S262144x64x1_S262144x64x16_0_1_2
        (broadcastInDim S262144x64x1 ![0, 1] bcast_S262144x64_S262144x64x1_0_1 (Host.divf B W)))
      (broadcastInDim S262144x64x16 ![0, 1, 2] bcast_S1x1x16_S262144x64x16_0_1_2 (shapeCast S1x1x16 lv shapeCasts_S16_S1x1x16))) (ix3 b q k)
      = FloatOps.absf (F := Ideal) (φ := .f32) (Ideal.div (B (ix2 b q)) (W (ix2 b q)) - lv (ix1 k)) := by
  pointwise

theorem wide_apply (x : FVec Ideal S4096x4096 .f32) (b : Fin 262144) (q : Fin 64) : wide x (ix2 b q) = max ((least : ℝ) : EReal) (tops x (ix1 b)) := by
  unfold wide scales
  exact widened (tops x) b q

theorem wide_top (x : FVec Ideal S4096x4096 .f32) (b : Fin 262144) (q : Fin 64) : IsTop (wide x (ix2 b q)) fun p => blocks x (ix2 b p) := by
  intro u
  rw [wide_apply, max_le_iff]
  unfold tops
  rw [row_top]

theorem dists_apply (x : FVec Ideal S4096x4096 .f32) (lv : FVec Ideal S16 .f32) (b : Fin 262144) (q : Fin 64) (k : Fin 16) (a t l : ℝ) (ha : 0 < a)
    (hw : wide x (ix2 b q) = (a : EReal)) (ht : blocks x (ix2 b q) = (t : EReal)) (hl : lv (ix1 k) = (l : EReal)) :
    dists x lv (ix3 b q k) = ((|t / a - l| : ℝ) : EReal) := by
  unfold dists
  rw [distance, hw, ht, hl, Ideal.div_coe ha.ne', ← EReal.coe_mul, mul_one_div, ← EReal.coe_sub, absf_max, ← EReal.coe_neg, abs]
  exact (EReal.coe_strictMono.monotone.map_max).symm

theorem refOut_apply (x : FVec Ideal S4096x4096 .f32) (lv : FVec Ideal S16 .f32) (i : S4096x4096.Idx) (b : Fin 262144) (q : Fin 64)
    (hb : b.val = (i 0).val * 64 + (i 1).val / 64) (hq : q.val = (i 1).val % 64) :
    refOut x lv i = taken lv (nearest (dists x lv)) (ix2 b q) * wide x (ix2 b q) := by
  obtain ⟨b, _⟩ := b
  obtain ⟨q, _⟩ := q
  simp only at hb hq
  subst hb hq
  unfold refOut
  exact product _ _ i

/-! ## The table -/

theorem gathered (lv : FVec Ideal S16 .f32) (n : IVec S262144x64x1 32) (b : Fin 262144) (q : Fin 64) (k : Fin 16)
    (h : n (ix3 b q 0) = BitVec.ofNat 32 k.val) :
    Host.gather gather_S16_S262144x64x1_S262144x64_n_0_n_n_0_2_1 lv n (ix2 b q) = lv (ix1 k) := by
  have e : ValueIdx.takeIdx (R := 262144) (C := 64) (ix2 b q) = ix3 b q 0 := funext fun a => match a with | 0 => rfl | 1 => rfl | 2 => rfl
  refine (ValueIdx.gather_take_apply (N := 16) (R := 262144) (C := 64) (by decide) gather_S16_S262144x64x1_S262144x64_n_0_n_n_0_2_1_wf lv n (ix2 b q)).trans
    (congrArg lv (congrArg ix1 (Fin.ext ?_)))
  show min (n (ValueIdx.takeIdx (ix2 b q))).toInt.toNat 15 = k.val
  rw [e, h]
  clear h
  revert k
  decide

theorem asked_apply (n : IVec S262144x64 32) (b : Fin 262144) (q : Fin 64) (k : Fin 16)
    (h : n (ix2 b q) = BitVec.ofNat 32 k.val) : asked n (ix3 b q 0) = BitVec.ofNat 32 k.val := by
  unfold asked wrapped
  pointwise [h]
  clear h
  revert k
  decide

theorem all_within (a : IVec S262144x64x1 32) (b : Fin 262144) (q : Fin 64) (k : Fin 16) (h : a (ix3 b q 0) = BitVec.ofNat 32 k.val) :
    Host.reduce IntOp.andi
      (andi (cmpi .sge a (broadcastInDim S262144x64x1 ![] bcast_S_S262144x64x1 (constantI S_ 32 0#32)))
        (cmpi .sle a (broadcastInDim S262144x64x1 ![0, 1, 2] bcast_S1x1x1_S262144x64x1_0_1_2
          (broadcastInDim S1x1x1 ![2] bcast_S1_S1x1x1_2 (constantI S1 32 15#32)))))
      (constantI S_ 1 1#1) reducesTo_S262144x64x1_S262144x64_d2 h_S_ (ix2 b q) = 1#1 := by
  pointwise
  rw [Finset.univ_unique, Finset.fold_singleton, Fin.default_eq_zero, h]
  clear h
  revert k
  decide

theorem chosen (c : IVec S262144x64 1) (g : FVec Ideal S262144x64 .f32) (b : Fin 262144) (q : Fin 64) (h : c (ix2 b q) = 1#1) :
    select c g (broadcastInDim S262144x64 ![] bcast_S_S262144x64 (constant (F := Ideal) S_ .f32 0x7FC00000#32)) (ix2 b q) = g (ix2 b q) := by
  show Scalar.select (c (ix2 b q)) (g (ix2 b q)) _ = _
  rw [h]; rfl

theorem taken_apply (lv : FVec Ideal S16 .f32) (n : IVec S262144x64 32) (b : Fin 262144) (q : Fin 64) (k : Fin 16)
    (h : n (ix2 b q) = BitVec.ofNat 32 k.val) : taken lv n (ix2 b q) = lv (ix1 k) := by
  have ha := asked_apply n b q k h
  unfold taken within
  rw [chosen _ _ b q (all_within _ b q k ha), gathered _ _ b q k ha]

/-! ## The arg-min -/

/-- The first of two pairs comes no later than the second: a smaller value, or an equal one and no larger a number. -/
def Before (a b : EReal × BitVec 32) : Prop := a.1 < b.1 ∨ a.1 = b.1 ∧ a.2.toInt ≤ b.2.toInt

theorem Before.refl (a : EReal × BitVec 32) : Before a a := Or.inr ⟨rfl, le_rfl⟩

theorem Before.trans {a b c : EReal × BitVec 32} (h : Before a b) (h' : Before b c) : Before a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- The step takes one of its two pairs, the one that comes first. -/
theorem step_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨v, n⟩ := a
  obtain ⟨w, l⟩ := b
  have hs : ∀ p : Prop, ∀ [Decidable p], (BitVec.ofBool (decide p) = 1#1) = p := fun p _ => by by_cases h : p <;> simp [h]
  unfold reducer_argmin_f32_i32 Before
  simp only [Ideal.cmpf_def, Ideal.cmp, IntOp.cmpi, IntOp.ori, IntOp.andi, Scalar.select]
  rcases lt_trichotomy v w with h | h | h
  · have o : ∀ c : BitVec 1, 1#1 ||| c = 1#1 := by decide
    simp [h, o]
  · subst h
    by_cases hn : n.slt l
    · have hl := BitVec.slt_iff_toInt_lt.1 hn
      simp [hn]; omega
    · have hl := mt BitVec.slt_iff_toInt_lt.2 hn
      simp [hn]; omega
  · simp [h, not_lt.2 h.le, h.ne']

theorem fold_before (l : List (EReal × BitVec 32)) : ∀ a : EReal × BitVec 32,
    l.foldl (reducer_argmin_f32_i32 (F := Ideal)) a ∈ a :: l ∧ ∀ b ∈ a :: l, Before (l.foldl (reducer_argmin_f32_i32 (F := Ideal)) a) b := by
  induction l with
  | nil => exact fun a => ⟨List.mem_singleton.2 rfl, fun b hb => List.mem_singleton.1 hb ▸ Before.refl _⟩
  | cons c l ih =>
    intro a
    obtain ⟨hm, hb⟩ := ih (reducer_argmin_f32_i32 (F := Ideal) a c)
    obtain ⟨h1, h2, h3⟩ := step_before a c
    rw [List.foldl_cons]
    constructor
    · rcases List.mem_cons.1 hm with e | e
      · rw [e]; rcases h1 with h1 | h1 <;> rw [h1] <;> simp
      · exact List.mem_cons_of_mem _ (List.mem_cons_of_mem _ e)
    · have h0 := hb _ (List.mem_cons_self ..)
      intro b hb'
      rcases List.mem_cons.1 hb' with rfl | hb'
      · exact h0.trans h2
      · rcases List.mem_cons.1 hb' with rfl | hb'
        · exact h0.trans h3
        · exact hb _ (List.mem_cons_of_mem _ hb')

/-- The pairs folded at an index are those of the indices over it. -/
theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩
    exact ⟨s.rowMajor i, by rw [Equiv.symm_apply_apply]; exact hi, by rw [Equiv.symm_apply_apply]⟩

theorem drop_iff (i : S262144x64x16.Idx) (b : Fin 262144) (q : Fin 64) :
    reducesTo_S262144x64x16_S262144x64_d2.drop i = ix2 b q ↔ ∃ k : Fin 16, i = ix3 b q k := by
  have e0 := Shape.ReducesTo.drop_apply_val_of_eq reducesTo_S262144x64x16_S262144x64_d2 i 0 0
  have e1 := Shape.ReducesTo.drop_apply_val_of_eq reducesTo_S262144x64x16_S262144x64_d2 i 1 1
  constructor
  · intro h
    rw [h] at e0 e1
    refine ⟨i 2, funext fun a => ?_⟩
    match a with
    | 0 => exact Fin.ext e0.symm
    | 1 => exact Fin.ext e1.symm
    | 2 => rfl
  · rintro ⟨k, rfl⟩
    funext a
    match a with
    | 0 => exact Fin.ext e0
    | 1 => exact Fin.ext e1

/-- The number that the fold leaves, where sixteen pairs lie over the index: the first of the smallest. -/
theorem fold_spec {s t u : Shape} {axes : List (Fin s.rank)} (h : s.ReducesTo axes t) (hu : 0 < u.numel) (j : t.Idx) (g : Fin 16 → s.Idx)
    (hg : ∀ i, h.drop i = j ↔ ∃ k, i = g k) (D : FVec Ideal s .f32) (Y : IVec s 32) (hY : ∀ k, Y (g k) = BitVec.ofNat 32 k.val)
    (v : FVec Ideal u .f32) (w : IVec u 32) (hv : v (Shape.Idx.first hu) = ⊤) (d : Fin 16 → ℝ) (hD : ∀ k, D (g k) = (d k : EReal)) :
    ∃ k : Fin 16, (Host.argReduce (F := Ideal) reducer_argmin_f32_i32 D Y v w h hu j).2 = BitVec.ofNat 32 k.val ∧ (∀ j < k, d k < d j) ∧ ∀ j, d k ≤ d j := by
  rw [Ideal.argReduce_eq_reduce2, Host.reduce2_eq_foldl_fiber]
  have hf := mem_fiber D Y h j
  generalize Host.argReduceFiber D Y h j = l at hf ⊢
  rw [hv]
  generalize w (Shape.Idx.first hu) = w₀
  obtain ⟨hm, hb⟩ := fold_before l ((⊤ : EReal), w₀)
  have hk : ∀ k : Fin 16, Before (l.foldl (reducer_argmin_f32_i32 (F := Ideal)) ((⊤ : EReal), w₀)) ((d k : EReal), BitVec.ofNat 32 k.val) := fun k =>
    hb _ (List.mem_cons_of_mem _ ((hf _).2 ⟨g k, (hg _).2 ⟨k, rfl⟩, by rw [hD, hY]⟩))
  rcases List.mem_cons.1 hm with e | e
  · have h0 := hk 0
    rw [e] at h0
    rcases h0 with h0 | ⟨h0, _⟩
    · exact absurd h0 (by simp)
    · exact absurd h0 (by simp)
  · obtain ⟨i, hd, hp⟩ := (hf _).1 e
    obtain ⟨k, rfl⟩ := (hg i).1 hd
    rw [hD, hY] at hp
    rw [hp] at hk ⊢
    have word : ∀ k j : Fin 16, j < k → ¬(BitVec.ofNat 32 k.val).toInt ≤ (BitVec.ofNat 32 j.val).toInt := by decide
    refine ⟨k, rfl, fun j hj => ?_, fun j => ?_⟩
    · rcases hk j with h | ⟨_, h⟩
      · exact EReal.coe_lt_coe_iff.1 h
      · exact absurd h (word k j hj)
    · rcases hk j with h | ⟨h, _⟩
      · exact (EReal.coe_lt_coe_iff.1 h).le
      · exact (EReal.coe_eq_coe_iff.1 h).le

theorem iota_at (b : Fin 262144) (q : Fin 64) (k : Fin 16) : iotaInDim S262144x64x16 32 2 (ix3 b q k) = BitVec.ofNat 32 k.val := by
  pointwise

theorem nearest_eq (D : FVec Ideal S262144x64x16 .f32) : nearest D = fun j => (Host.argReduce (F := Ideal) reducer_argmin_f32_i32 D
    (iotaInDim S262144x64x16 32 2) (constant S_ .f32 0x7F800000#32) (constantI S_ 32 0#32) reducesTo_S262144x64x16_S262144x64_d2 h_S_ j).2 := rfl

theorem nearest_spec (D : FVec Ideal S262144x64x16 .f32) (b : Fin 262144) (q : Fin 64) (d : Fin 16 → ℝ) (hD : ∀ k, D (ix3 b q k) = (d k : EReal)) :
    ∃ k : Fin 16, nearest D (ix2 b q) = BitVec.ofNat 32 k.val ∧ (∀ j < k, d k < d j) ∧ ∀ j, d k ≤ d j := by
  rw [nearest_eq]
  exact fold_spec reducesTo_S262144x64x16_S262144x64_d2 h_S_ (ix2 b q) (fun k => ix3 b q k) (fun i => drop_iff i b q) D (iotaInDim S262144x64x16 32 2)
    (iota_at b q) (constant (F := Ideal) S_ .f32 0x7F800000#32) (constantI S_ 32 0#32) top_bits d hD

/-! ## The result -/

/-- The reference's result at real words and the table's levels. -/
theorem refOut_quant (r : S4096x4096.Idx → ℝ) (lv : FVec Ideal S16 .f32) (hl : ∀ k : Fin 16, lv (ix1 k) = ((lev k : ℝ) : EReal)) (i : S4096x4096.Idx) :
    ∃ a : ℝ, 0 < a ∧ IsTop (a : EReal) (fun p => ((row r i p : ℝ) : EReal)) ∧ refOut (fun j => (r j : EReal)) lv i = quant a (r i) := by
  have h0 : (i 0).val < 4096 := (i 0).isLt
  have h1 : (i 1).val < 4096 := (i 1).isLt
  obtain ⟨b, hb⟩ : ∃ b : Fin 262144, b.val = (i 0).val * 64 + (i 1).val / 64 := ⟨⟨_, by omega⟩, rfl⟩
  obtain ⟨q, hq⟩ : ∃ q : Fin 64, q.val = (i 1).val % 64 := ⟨⟨_, by omega⟩, rfl⟩
  have hx : ∀ p : Fin 64, blocks (fun j => (r j : EReal)) (ix2 b p) = ((row r i p : ℝ) : EReal) := fun p => by
    rw [blocks_apply]
    refine congrArg (fun j => ((r j : ℝ) : EReal)) (funext fun a => ?_)
    match a with
    | 0 => exact Fin.ext (by show b.val / 64 = (i 0).val; omega)
    | 1 => exact Fin.ext (by show b.val % 64 * 64 + p.val = (i 1).val / 64 * 64 + p.val; omega)
  have hi : row r i q = r i := congrArg r (funext fun a => match a with
    | 0 => rfl
    | 1 => Fin.ext (by show (i 1).val / 64 * 64 + q.val = (i 1).val; omega))
  have hT := wide_top (fun j => (r j : EReal)) b q
  rw [funext hx] at hT
  obtain ⟨a, ha, hw⟩ := hT.real
  refine ⟨a, ha, hw ▸ hT, ?_⟩
  obtain ⟨k, hk, first, near⟩ := nearest_spec (dists (fun j => (r j : EReal)) lv) b q (fun k => |r i / a - lev k|)
    (fun k => dists_apply _ lv b q k a (r i) (lev k) ha hw ((hx q).trans (by rw [hi])) (hl k))
  rw [refOut_apply _ lv i b q hb hq, taken_apply lv _ b q k hk, hl, hw, quant, pick_nearest (r i / a) k first near, EReal.coe_mul]

end Cert.Proof.Ref

end
-- ==== Proof.Values.lean ====
/-
  The kernel computes the reference's result, and its named thresholds are the words it was written with.
-/
module

public import proofs.«01_k».proof.Proof.RefVal
public import proofs.«01_k».proof.Proof.Gen.Pre_nf4
public import proofs.«01_k».proof.Defs
public import Idealize.ShloMosaic.Lib.ReduceAll

@[expose] public section

noncomputable section

namespace Cert.Proof

open Idealize.ShloMosaic Idealize.SL.Sem Cert.Proof.Nf4

/-! ## The arguments taken -/

/-- The second argument is the table of levels, and every word of the first is a real. -/
theorem taken_args (x : FVec Ideal Cert.Pre_nf4.S4096x4096 .f32) (lv : FVec Ideal Cert.Pre_nf4.S16 .f32)
    (h : Cert.Pre_nf4.fn (F := Ideal) x lv = fun _ => 1#1) :
    (∀ k : Fin 16, lv (ix1 k) = ((lev k : ℝ) : EReal)) ∧ ∃ r : Cert.Pre_nf4.S4096x4096.Idx → ℝ, x = fun i => (r i : EReal) := by
  obtain ⟨hl, hx⟩ := IntOp.andi_eq_one.1 (congrFun h (Shape.Idx.first Cert.Pre_nf4.Gen.h_S_))
  have bit : ∀ p : Prop, ∀ [Decidable p], BitVec.ofBool (decide p) = 1#1 → p := fun p _ hp => by
    by_contra hn; simp [hn] at hp
  have place : ∀ k : Fin 16, Cert.Pre_nf4.S16.rowMajor (ix1 k) = (k : Fin 16) := fun k => Fin.ext (Shape.rowMajor_val_one (ix1 k))
  constructor
  · intro k
    have hk := bit _ (Host.reduce_andi_all _ _ _ _ _ hl (ix1 k))
    rw [← lev_bits]
    refine hk.trans ?_
    show Ideal.ofBits .f32 (Cert.Pre_nf4.lit0 (Cert.Pre_nf4.S16.rowMajor (ix1 k))) = _
    rw [place]
  · have hr : ∀ i, ∃ t : ℝ, x i = (t : EReal) := fun i => by
      have hi : max (x i) (-x i) < Ideal.ofBits .f32 0x7F800000#32 := bit _ (Host.reduce_andi_all _ _ _ _ _ hx i)
      rw [top_bits] at hi
      obtain ⟨v, hv⟩ : ∃ v : EReal, x i = v := ⟨_, rfl⟩
      rw [hv] at hi ⊢
      clear hv
      induction v with
      | bot => exact absurd hi (by simp)
      | top => exact absurd hi (by simp)
      | coe t => exact ⟨t, rfl⟩
    exact ⟨fun i => (hr i).choose, funext fun i => (hr i).choose_spec⟩

/-! ## The value -/

/-- On such arguments the two results are one. -/
theorem values_eq (x : FVec Ideal Cert.Pre_nf4.S4096x4096 .f32) (lv : FVec Ideal Cert.Pre_nf4.S16 .f32)
    (h : Cert.Pre_nf4.fn (F := Ideal) x lv = fun _ => 1#1) : Ref.refOut x lv = outVal (F := Ideal) x := by
  obtain ⟨hl, r, rfl⟩ := taken_args x lv h
  funext i
  obtain ⟨a, ha, ta, ea⟩ := Ref.refOut_quant r lv hl i
  obtain ⟨b, hb, tb, eb⟩ := outVal_quant r i
  obtain rfl : a = b := EReal.coe_eq_coe_iff.1 (ta.unique tb)
  exact ea.trans eb.symm

theorem algebraic : Cert.algebraic_KernelIdeal_ReferenceIdeal_pre_nf4 := fun m g m' g' hpre hargs =>
  ⟨fun c => outVal (m (xLoc c)),
    (θ_run Cert.KernelIdeal.defs _ _).mono (fun _ h c => ⟨(h.1 c).2.2, (h.1 c).1, (h.1 c).2.1⟩) (run_main (F := Ideal) m g),
    (θ_run Cert.ReferenceIdeal.defs _ _).mono (fun _ h c => ⟨(h c).1.trans (by
      rw [(hargs c).1, (hargs c).2]
      exact values_eq _ _ (hpre c)), (h c).2⟩) (Ref.run m' g')⟩

/-! ## The names -/

open IdealRules in
theorem preserves : Cert.preserves_Kernel_KernelIdeal :=
  ⟨named_const.statement _ _ _ _ _ rfl, named_const.statement _ _ _ _ _ rfl, named_const.statement _ _ _ _ _ rfl,
    named_const.statement _ _ _ _ _ rfl, named_const.statement _ _ _ _ _ rfl, named_const.statement _ _ _ _ _ rfl,
    named_const.statement _ _ _ _ _ rfl, named_const.statement _ _ _ _ _ rfl, named_const.statement _ _ _ _ _ rfl,
    named_const.statement _ _ _ _ _ rfl, named_const.statement _ _ _ _ _ rfl, named_const.statement _ _ _ _ _ rfl,
    named_const.statement _ _ _ _ _ rfl, named_const.statement _ _ _ _ _ rfl, named_const.statement _ _ _ _ _ rfl⟩

end Cert.Proof

end
-- ==== Proof.lean ====
/-
  The claims: the kernel's frames and the reference's, the named thresholds, and the equality of the two results.
-/
module

public import proofs.«01_k».proof.Proof.Frames
public import proofs.«01_k».proof.Proof.Values

@[expose] public section

noncomputable section

namespace Cert.Proof

theorem claim : Cert.Claim :=
  ⟨Cert.Kernel.Gen.facts, Cert.KernelIdeal.Gen.facts, Cert.ReferenceIdeal.Gen.facts, Cert.Pre_nf4.Gen.facts,
    Nf4.frame_words, Nf4.frame_ideal, Nf4.frame_ideal_pre, Ref.frame, Ref.frame_pre, preserves, algebraic⟩

end Cert.Proof

end
